-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_affine_power [hPre_affine_power : Cert.Pre_affine_power.Facts] (m : (ℓ : Loc Cert.KernelIdeal.nD Cert.KernelIdeal.τ Cert.KernelIdeal.sig) → Buf (Elt Ideal) ℓ) : Prop :=
  ∀ c : Dev Cert.KernelIdeal.nD,
    (Cert.Pre_affine_power.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_affine_power.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_affine_power.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_KernelIdeal_zero_content [hPre_zero_content : Cert.Pre_zero_content.Facts] (m : (ℓ : Loc Cert.KernelIdeal.nD Cert.KernelIdeal.τ Cert.KernelIdeal.sig) → Buf (Elt Ideal) ℓ) : Prop :=
  ∀ c : Dev Cert.KernelIdeal.nD,
    (Cert.Pre_zero_content.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_zero_content.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_KernelIdeal_drawn_inputs [hPre_drawn_inputs : Cert.Pre_drawn_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_drawn_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_drawn_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_drawn_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_affine_power [hPre_affine_power : Cert.Pre_affine_power.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_affine_power.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_affine_power.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_affine_power.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def Pre_FirstOrderIdeal (m : (ℓ : Loc Cert.FirstOrderIdeal.nD Cert.FirstOrderIdeal.τ Cert.FirstOrderIdeal.sig) → Buf (Elt Ideal) ℓ) : Prop :=
  True

def Pre_FirstOrderIdeal_zero_content [hPre_zero_content : Cert.Pre_zero_content.Facts] (m : (ℓ : Loc Cert.FirstOrderIdeal.nD Cert.FirstOrderIdeal.τ Cert.FirstOrderIdeal.sig) → Buf (Elt Ideal) ℓ) : Prop :=
  ∀ c : Dev Cert.FirstOrderIdeal.nD,
    (Cert.Pre_zero_content.fn (F := Ideal) (m ((c.tc : Thread Cert.FirstOrderIdeal.nD Cert.FirstOrderIdeal.τ).loc Cert.FirstOrderIdeal.main_arg0)) (m ((c.tc : Thread Cert.FirstOrderIdeal.nD Cert.FirstOrderIdeal.τ).loc Cert.FirstOrderIdeal.main_arg1)) (m ((c.tc : Thread Cert.FirstOrderIdeal.nD Cert.FirstOrderIdeal.τ).loc Cert.FirstOrderIdeal.main_arg2)) (m ((c.tc : Thread Cert.FirstOrderIdeal.nD Cert.FirstOrderIdeal.τ).loc Cert.FirstOrderIdeal.main_arg3)) (m ((c.tc : Thread Cert.FirstOrderIdeal.nD Cert.FirstOrderIdeal.τ).loc Cert.FirstOrderIdeal.main_arg4)) (m ((c.tc : Thread Cert.FirstOrderIdeal.nD Cert.FirstOrderIdeal.τ).loc Cert.FirstOrderIdeal.main_arg5)) (m ((c.tc : Thread Cert.FirstOrderIdeal.nD Cert.FirstOrderIdeal.τ).loc Cert.FirstOrderIdeal.main_arg6))).1 = (fun _ => 1#1)
    ∧ (Cert.Pre_zero_content.fn (F := Ideal) (m ((c.tc : Thread Cert.FirstOrderIdeal.nD Cert.FirstOrderIdeal.τ).loc Cert.FirstOrderIdeal.main_arg0)) (m ((c.tc : Thread Cert.FirstOrderIdeal.nD Cert.FirstOrderIdeal.τ).loc Cert.FirstOrderIdeal.main_arg1)) (m ((c.tc : Thread Cert.FirstOrderIdeal.nD Cert.FirstOrderIdeal.τ).loc Cert.FirstOrderIdeal.main_arg2)) (m ((c.tc : Thread Cert.FirstOrderIdeal.nD Cert.FirstOrderIdeal.τ).loc Cert.FirstOrderIdeal.main_arg3)) (m ((c.tc : Thread Cert.FirstOrderIdeal.nD Cert.FirstOrderIdeal.τ).loc Cert.FirstOrderIdeal.main_arg4)) (m ((c.tc : Thread Cert.FirstOrderIdeal.nD Cert.FirstOrderIdeal.τ).loc Cert.FirstOrderIdeal.main_arg5)) (m ((c.tc : Thread Cert.FirstOrderIdeal.nD Cert.FirstOrderIdeal.τ).loc Cert.FirstOrderIdeal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_affine_power [hKernelIdeal : Cert.KernelIdeal.Facts] [hPre_affine_power : Cert.Pre_affine_power.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_affine_power m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_zero_content [hKernelIdeal : Cert.KernelIdeal.Facts] [hPre_zero_content : Cert.Pre_zero_content.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_content m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_drawn_inputs [hKernelIdeal : Cert.KernelIdeal.Facts] [hPre_drawn_inputs : Cert.Pre_drawn_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_affine_power [hReferenceIdeal : Cert.ReferenceIdeal.Facts] [hPre_affine_power : Cert.Pre_affine_power.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_affine_power m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_FirstOrderIdeal [hFirstOrderIdeal : Cert.FirstOrderIdeal.Facts] : Prop :=
  ∀ (m : (ℓ : Loc Cert.FirstOrderIdeal.nD Cert.FirstOrderIdeal.τ Cert.FirstOrderIdeal.sig) → Buf (Elt Ideal) ℓ) (g : Dev Cert.FirstOrderIdeal.nD → PrngReg), Pre_FirstOrderIdeal m →
    θ_run (Cert.FirstOrderIdeal.defs (F := Ideal)) (onTc (τ := Cert.FirstOrderIdeal.τ) (Cert.FirstOrderIdeal.main (F := Ideal))) ⟨m, fun _ => 0, g⟩ (fun r => (∀ c : Dev Cert.FirstOrderIdeal.nD,
      r.2.mem ((c.tc : Thread Cert.FirstOrderIdeal.nD Cert.FirstOrderIdeal.τ).loc Cert.FirstOrderIdeal.main_arg0) = m ((c.tc : Thread Cert.FirstOrderIdeal.nD Cert.FirstOrderIdeal.τ).loc Cert.FirstOrderIdeal.main_arg0)
      ∧ r.2.mem ((c.tc : Thread Cert.FirstOrderIdeal.nD Cert.FirstOrderIdeal.τ).loc Cert.FirstOrderIdeal.main_arg1) = m ((c.tc : Thread Cert.FirstOrderIdeal.nD Cert.FirstOrderIdeal.τ).loc Cert.FirstOrderIdeal.main_arg1)
      ∧ r.2.mem ((c.tc : Thread Cert.FirstOrderIdeal.nD Cert.FirstOrderIdeal.τ).loc Cert.FirstOrderIdeal.main_arg2) = m ((c.tc : Thread Cert.FirstOrderIdeal.nD Cert.FirstOrderIdeal.τ).loc Cert.FirstOrderIdeal.main_arg2)
      ∧ r.2.mem ((c.tc : Thread Cert.FirstOrderIdeal.nD Cert.FirstOrderIdeal.τ).loc Cert.FirstOrderIdeal.main_arg3) = m ((c.tc : Thread Cert.FirstOrderIdeal.nD Cert.FirstOrderIdeal.τ).loc Cert.FirstOrderIdeal.main_arg3)
      ∧ r.2.mem ((c.tc : Thread Cert.FirstOrderIdeal.nD Cert.FirstOrderIdeal.τ).loc Cert.FirstOrderIdeal.main_arg4) = m ((c.tc : Thread Cert.FirstOrderIdeal.nD Cert.FirstOrderIdeal.τ).loc Cert.FirstOrderIdeal.main_arg4)
      ∧ r.2.mem ((c.tc : Thread Cert.FirstOrderIdeal.nD Cert.FirstOrderIdeal.τ).loc Cert.FirstOrderIdeal.main_arg5) = m ((c.tc : Thread Cert.FirstOrderIdeal.nD Cert.FirstOrderIdeal.τ).loc Cert.FirstOrderIdeal.main_arg5)
      ∧ r.2.mem ((c.tc : Thread Cert.FirstOrderIdeal.nD Cert.FirstOrderIdeal.τ).loc Cert.FirstOrderIdeal.main_arg6) = m ((c.tc : Thread Cert.FirstOrderIdeal.nD Cert.FirstOrderIdeal.τ).loc Cert.FirstOrderIdeal.main_arg6))
      ∧ r.2.sem = fun _ => 0)

def quiescent_FirstOrderIdeal_pre_zero_content [hFirstOrderIdeal : Cert.FirstOrderIdeal.Facts] [hPre_zero_content : Cert.Pre_zero_content.Facts] : Prop :=
  ∀ (m : (ℓ : Loc Cert.FirstOrderIdeal.nD Cert.FirstOrderIdeal.τ Cert.FirstOrderIdeal.sig) → Buf (Elt Ideal) ℓ) (g : Dev Cert.FirstOrderIdeal.nD → PrngReg), Pre_FirstOrderIdeal_zero_content m →
    θ_run (Cert.FirstOrderIdeal.defs (F := Ideal)) (onTc (τ := Cert.FirstOrderIdeal.τ) (Cert.FirstOrderIdeal.main (F := Ideal))) ⟨m, fun _ => 0, g⟩ (fun r => (∀ c : Dev Cert.FirstOrderIdeal.nD,
      r.2.mem ((c.tc : Thread Cert.FirstOrderIdeal.nD Cert.FirstOrderIdeal.τ).loc Cert.FirstOrderIdeal.main_arg0) = m ((c.tc : Thread Cert.FirstOrderIdeal.nD Cert.FirstOrderIdeal.τ).loc Cert.FirstOrderIdeal.main_arg0)
      ∧ r.2.mem ((c.tc : Thread Cert.FirstOrderIdeal.nD Cert.FirstOrderIdeal.τ).loc Cert.FirstOrderIdeal.main_arg1) = m ((c.tc : Thread Cert.FirstOrderIdeal.nD Cert.FirstOrderIdeal.τ).loc Cert.FirstOrderIdeal.main_arg1)
      ∧ r.2.mem ((c.tc : Thread Cert.FirstOrderIdeal.nD Cert.FirstOrderIdeal.τ).loc Cert.FirstOrderIdeal.main_arg2) = m ((c.tc : Thread Cert.FirstOrderIdeal.nD Cert.FirstOrderIdeal.τ).loc Cert.FirstOrderIdeal.main_arg2)
      ∧ r.2.mem ((c.tc : Thread Cert.FirstOrderIdeal.nD Cert.FirstOrderIdeal.τ).loc Cert.FirstOrderIdeal.main_arg3) = m ((c.tc : Thread Cert.FirstOrderIdeal.nD Cert.FirstOrderIdeal.τ).loc Cert.FirstOrderIdeal.main_arg3)
      ∧ r.2.mem ((c.tc : Thread Cert.FirstOrderIdeal.nD Cert.FirstOrderIdeal.τ).loc Cert.FirstOrderIdeal.main_arg4) = m ((c.tc : Thread Cert.FirstOrderIdeal.nD Cert.FirstOrderIdeal.τ).loc Cert.FirstOrderIdeal.main_arg4)
      ∧ r.2.mem ((c.tc : Thread Cert.FirstOrderIdeal.nD Cert.FirstOrderIdeal.τ).loc Cert.FirstOrderIdeal.main_arg5) = m ((c.tc : Thread Cert.FirstOrderIdeal.nD Cert.FirstOrderIdeal.τ).loc Cert.FirstOrderIdeal.main_arg5)
      ∧ r.2.mem ((c.tc : Thread Cert.FirstOrderIdeal.nD Cert.FirstOrderIdeal.τ).loc Cert.FirstOrderIdeal.main_arg6) = m ((c.tc : Thread Cert.FirstOrderIdeal.nD Cert.FirstOrderIdeal.τ).loc Cert.FirstOrderIdeal.main_arg6))
      ∧ r.2.sem = fun _ => 0)

def preserves_Kernel_KernelIdeal : Prop :=
  IdealRules.named_const.Statement Cert.KernelIdeal.κ "eps" .f32 0x322BCC77#32 ((1 / 100000000 : ℝ) : EReal)
  ∧ IdealRules.named_const.Statement Cert.KernelIdeal.κ "floor" .f32 0x24E69595#32 ((1 / 10000000000000000 : ℝ) : EReal)
  ∧ IdealRules.named_const.Statement Cert.KernelIdeal.κ "log_tiny" .f32 0xC1B834F1#32 ((-(10 * (Real.log 10)) : ℝ) : EReal)
  ∧ IdealRules.named_const.Statement Cert.KernelIdeal.κ "tiny" .f32 0x2EDBE6FF#32 ((1 / 10000000000 : ℝ) : EReal)
  ∧ IdealRules.named_const.Statement Cert.KernelIdeal.κ "ratio" .f32 0x358637BD#32 ((1 / 1000000 : ℝ) : EReal)

def algebraic_KernelIdeal_ReferenceIdeal_pre_affine_power [hKernelIdeal : Cert.KernelIdeal.Facts] [hReferenceIdeal : Cert.ReferenceIdeal.Facts] [hPre_affine_power : Cert.Pre_affine_power.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_affine_power m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def algebraic_KernelIdeal_FirstOrderIdeal_pre_zero_content [hKernelIdeal : Cert.KernelIdeal.Facts] [hFirstOrderIdeal : Cert.FirstOrderIdeal.Facts] [hPre_zero_content : Cert.Pre_zero_content.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.FirstOrderIdeal.nD Cert.FirstOrderIdeal.τ Cert.FirstOrderIdeal.sig) → Buf (Elt Ideal) ℓ) (g' : Dev Cert.FirstOrderIdeal.nD → PrngReg), Pre_KernelIdeal_zero_content m →
    (∀ c : Dev Cert.KernelIdeal.nD,
      m' ((c.tc : Thread Cert.FirstOrderIdeal.nD Cert.FirstOrderIdeal.τ).loc Cert.FirstOrderIdeal.main_arg0) = m ((c.tc : Thread Cert.KernelIdeal.nD Cert.KernelIdeal.τ).loc Cert.KernelIdeal.main_arg0)
      ∧ m' ((c.tc : Thread Cert.FirstOrderIdeal.nD Cert.FirstOrderIdeal.τ).loc Cert.FirstOrderIdeal.main_arg1) = m ((c.tc : Thread Cert.KernelIdeal.nD Cert.KernelIdeal.τ).loc Cert.KernelIdeal.main_arg1)
      ∧ m' ((c.tc : Thread Cert.FirstOrderIdeal.nD Cert.FirstOrderIdeal.τ).loc Cert.FirstOrderIdeal.main_arg2) = m ((c.tc : Thread Cert.KernelIdeal.nD Cert.KernelIdeal.τ).loc Cert.KernelIdeal.main_arg2)
      ∧ m' ((c.tc : Thread Cert.FirstOrderIdeal.nD Cert.FirstOrderIdeal.τ).loc Cert.FirstOrderIdeal.main_arg3) = m ((c.tc : Thread Cert.KernelIdeal.nD Cert.KernelIdeal.τ).loc Cert.KernelIdeal.main_arg3)
      ∧ m' ((c.tc : Thread Cert.FirstOrderIdeal.nD Cert.FirstOrderIdeal.τ).loc Cert.FirstOrderIdeal.main_arg4) = m ((c.tc : Thread Cert.KernelIdeal.nD Cert.KernelIdeal.τ).loc Cert.KernelIdeal.main_arg4)
      ∧ m' ((c.tc : Thread Cert.FirstOrderIdeal.nD Cert.FirstOrderIdeal.τ).loc Cert.FirstOrderIdeal.main_arg5) = m ((c.tc : Thread Cert.KernelIdeal.nD Cert.KernelIdeal.τ).loc Cert.KernelIdeal.main_arg5)
      ∧ m' ((c.tc : Thread Cert.FirstOrderIdeal.nD Cert.FirstOrderIdeal.τ).loc Cert.FirstOrderIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.FirstOrderIdeal.defs (F := Ideal)) (onTc (τ := Cert.FirstOrderIdeal.τ) (Cert.FirstOrderIdeal.main (F := Ideal))) ⟨m', fun _ => 0, g'⟩ (fun r => ∀ c : Dev Cert.FirstOrderIdeal.nD,
          r.2.mem ((c.tc : Thread Cert.FirstOrderIdeal.nD Cert.FirstOrderIdeal.τ).loc Cert.FirstOrderIdeal.main_v77) = v0 c
          ∧ r.2.mem ((c.tc : Thread Cert.FirstOrderIdeal.nD Cert.FirstOrderIdeal.τ).loc Cert.FirstOrderIdeal.main_arg0) = m' ((c.tc : Thread Cert.FirstOrderIdeal.nD Cert.FirstOrderIdeal.τ).loc Cert.FirstOrderIdeal.main_arg0)
          ∧ r.2.mem ((c.tc : Thread Cert.FirstOrderIdeal.nD Cert.FirstOrderIdeal.τ).loc Cert.FirstOrderIdeal.main_arg1) = m' ((c.tc : Thread Cert.FirstOrderIdeal.nD Cert.FirstOrderIdeal.τ).loc Cert.FirstOrderIdeal.main_arg1)
          ∧ r.2.mem ((c.tc : Thread Cert.FirstOrderIdeal.nD Cert.FirstOrderIdeal.τ).loc Cert.FirstOrderIdeal.main_arg2) = m' ((c.tc : Thread Cert.FirstOrderIdeal.nD Cert.FirstOrderIdeal.τ).loc Cert.FirstOrderIdeal.main_arg2)
          ∧ r.2.mem ((c.tc : Thread Cert.FirstOrderIdeal.nD Cert.FirstOrderIdeal.τ).loc Cert.FirstOrderIdeal.main_arg3) = m' ((c.tc : Thread Cert.FirstOrderIdeal.nD Cert.FirstOrderIdeal.τ).loc Cert.FirstOrderIdeal.main_arg3)
          ∧ r.2.mem ((c.tc : Thread Cert.FirstOrderIdeal.nD Cert.FirstOrderIdeal.τ).loc Cert.FirstOrderIdeal.main_arg4) = m' ((c.tc : Thread Cert.FirstOrderIdeal.nD Cert.FirstOrderIdeal.τ).loc Cert.FirstOrderIdeal.main_arg4)
          ∧ r.2.mem ((c.tc : Thread Cert.FirstOrderIdeal.nD Cert.FirstOrderIdeal.τ).loc Cert.FirstOrderIdeal.main_arg5) = m' ((c.tc : Thread Cert.FirstOrderIdeal.nD Cert.FirstOrderIdeal.τ).loc Cert.FirstOrderIdeal.main_arg5)
          ∧ r.2.mem ((c.tc : Thread Cert.FirstOrderIdeal.nD Cert.FirstOrderIdeal.τ).loc Cert.FirstOrderIdeal.main_arg6) = m' ((c.tc : Thread Cert.FirstOrderIdeal.nD Cert.FirstOrderIdeal.τ).loc Cert.FirstOrderIdeal.main_arg6))

def holds_KernelIdeal_close_to_reference_pre_drawn_inputs [hKernelIdeal : Cert.KernelIdeal.Facts] [hPre_drawn_inputs : Cert.Pre_drawn_inputs.Facts] [hPost_close_to_reference : Cert.Post_close_to_reference.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn_inputs m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ (Cert.Post_close_to_reference.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (r.2.mem ((c.tc : Thread Cert.KernelIdeal.nD Cert.KernelIdeal.τ).loc Cert.KernelIdeal.main_v0))) = (fun _ => 1#1))

def Claim : Prop :=
  ∃ (hKernel : Cert.Kernel.Facts) (hKernelIdeal : Cert.KernelIdeal.Facts) (hReferenceIdeal : Cert.ReferenceIdeal.Facts) (hFirstOrderIdeal : Cert.FirstOrderIdeal.Facts) (hPre_affine_power : Cert.Pre_affine_power.Facts) (hPre_zero_content : Cert.Pre_zero_content.Facts) (hPre_drawn_inputs : Cert.Pre_drawn_inputs.Facts) (hPost_close_to_reference : Cert.Post_close_to_reference.Facts),
    quiescent_Kernel (hKernel := hKernel)
    ∧ quiescent_KernelIdeal (hKernelIdeal := hKernelIdeal)
    ∧ quiescent_KernelIdeal_pre_affine_power (hKernelIdeal := hKernelIdeal) (hPre_affine_power := hPre_affine_power)
    ∧ quiescent_KernelIdeal_pre_zero_content (hKernelIdeal := hKernelIdeal) (hPre_zero_content := hPre_zero_content)
    ∧ quiescent_KernelIdeal_pre_drawn_inputs (hKernelIdeal := hKernelIdeal) (hPre_drawn_inputs := hPre_drawn_inputs)
    ∧ quiescent_ReferenceIdeal (hReferenceIdeal := hReferenceIdeal)
    ∧ quiescent_ReferenceIdeal_pre_affine_power (hReferenceIdeal := hReferenceIdeal) (hPre_affine_power := hPre_affine_power)
    ∧ quiescent_FirstOrderIdeal (hFirstOrderIdeal := hFirstOrderIdeal)
    ∧ quiescent_FirstOrderIdeal_pre_zero_content (hFirstOrderIdeal := hFirstOrderIdeal) (hPre_zero_content := hPre_zero_content)
    ∧ preserves_Kernel_KernelIdeal
    ∧ algebraic_KernelIdeal_ReferenceIdeal_pre_affine_power (hKernelIdeal := hKernelIdeal) (hReferenceIdeal := hReferenceIdeal) (hPre_affine_power := hPre_affine_power)
    ∧ algebraic_KernelIdeal_FirstOrderIdeal_pre_zero_content (hKernelIdeal := hKernelIdeal) (hFirstOrderIdeal := hFirstOrderIdeal) (hPre_zero_content := hPre_zero_content)
    ∧ holds_KernelIdeal_close_to_reference_pre_drawn_inputs (hKernelIdeal := hKernelIdeal) (hPre_drawn_inputs := hPre_drawn_inputs) (hPost_close_to_reference := hPost_close_to_reference)
-- ==== Post_close_to_reference.lean ====
abbrev S32x32 : Shape := ⟨2, ![32, 32]⟩
abbrev S32x1 : Shape := ⟨2, ![32, 1]⟩
abbrev S50000x32 : Shape := ⟨2, ![50000, 32]⟩
abbrev S_ : Shape := ⟨0, ![]⟩
abbrev S1x50000x32 : Shape := ⟨3, ![1, 50000, 32]⟩
abbrev S32x50000x32 : Shape := ⟨3, ![32, 50000, 32]⟩
abbrev S32x1x32 : Shape := ⟨3, ![32, 1, 32]⟩
abbrev S32x50000 : Shape := ⟨2, ![32, 50000]⟩
abbrev S32 : Shape := ⟨1, ![32]⟩
abbrev S32x50000x1 : Shape := ⟨3, ![32, 50000, 1]⟩
abbrev S32x1x1 : Shape := ⟨3, ![32, 1, 1]⟩

class Facts : Prop where
  bcast_S50000x32_S1x50000x32_1_2 : S50000x32.BroadcastsInDim S1x50000x32 (![1, 2] : Fin 2 → Fin S1x50000x32.rank)
  bcast_S1x50000x32_S32x50000x32_0_1_2 : S1x50000x32.BroadcastsInDim S32x50000x32 (![0, 1, 2] : Fin 3 → Fin S32x50000x32.rank)
  shapeCasts_S32x32_S32x1x32 : S32x32.ShapeCasts S32x1x32
  reducesTo_S32x50000x32_S32x50000_d2 : S32x50000x32.ReducesTo [2] S32x50000
  h_S_ : 0 < S_.numel
  bcast_S_S32x50000 : S_.BroadcastsInDim S32x50000 (![] : Fin 0 → Fin S32x50000.rank)
  reducesTo_S32x1x32_S32x1_d2 : S32x1x32.ReducesTo [2] S32x1
  bcast_S_S32x1 : S_.BroadcastsInDim S32x1 (![] : Fin 0 → Fin S32x1.rank)
  bcast_S32x1x32_S32x50000x32_0_1_2 : S32x1x32.BroadcastsInDim S32x50000x32 (![0, 1, 2] : Fin 3 → Fin S32x50000x32.rank)
  bcast_S32x1_S32x50000_0_1 : S32x1.BroadcastsInDim S32x50000 (![0, 1] : Fin 2 → Fin S32x50000.rank)
  reducesTo_S32x50000_S32_d1 : S32x50000.ReducesTo [1] S32
  bcast_S32_S32x1_0 : S32.BroadcastsInDim S32x1 (![0] : Fin 1 → Fin S32x1.rank)
  sliceFits_S32x50000_S32x1 : S32x50000.Slices (fun _ => 0) S32x1
  bcast_S32x50000_S32x50000x1_0_1 : S32x50000.BroadcastsInDim S32x50000x1 (![0, 1] : Fin 2 → Fin S32x50000x1.rank)
  bcast_S32x32_S32x1x32_0_2 : S32x32.BroadcastsInDim S32x1x32 (![0, 2] : Fin 2 → Fin S32x1x32.rank)
  bcast_S32x50000x1_S32x50000x32_0_1_2 : S32x50000x1.BroadcastsInDim S32x50000x32 (![0, 1, 2] : Fin 3 → Fin S32x50000x32.rank)
  bcast_S32x1_S32x1x1_0_1 : S32x1.BroadcastsInDim S32x1x1 (![0, 1] : Fin 2 → Fin S32x1x1.rank)
  bcast_S_S32x1x1 : S_.BroadcastsInDim S32x1x1 (![] : Fin 0 → Fin S32x1x1.rank)
  shapeCasts_S32x1x32_S32x32 : S32x1x32.ShapeCasts S32x32
  bcast_S_S32x32 : S_.BroadcastsInDim S32x32 (![] : Fin 0 → Fin S32x32.rank)
  gather_S32x50000x32_S32x1x1_S32x1x32_2_1_0_0_1_2_1132_wf : GatherDims.WF S32x50000x32 S32x1x1 S32x1x32 [2] [1] [0] [1] [0] 2 ![1, 1, 32]

variable [Facts]

def gather_S32x50000x32_S32x1x1_S32x1x32_2_1_0_0_1_2_1132 : GatherDims S32x50000x32 S32x1x1 S32x1x32 where
  offsetDims := [2]
  collapsedSliceDims := [1]
  operandBatchingDims := [0]
  startIndicesBatchingDims := [0]
  startIndexMap := [1]
  indexVectorDim := 2
  sliceSizes := ![1, 1, 32]
  wf := gather_S32x50000x32_S32x1x1_S32x1x32_2_1_0_0_1_2_1132_wf
def fn_take_along_axis {F : FTy → Type} [FloatOps F] (arg0 : FVec F S32x50000x32 .f32) (arg1 : IVec S32x1x1 32) : FVec F S32x1x32 .f32 :=
  let c : IVec S_ 32 := constantI S_ 32 0#32
  let v0 : IVec S32x1x1 32 := broadcastInDim S32x1x1 ![] bcast_S_S32x1x1 c
  let v1 : IVec S32x1x1 1 := cmpi .slt arg1 v0
  let c_0 : IVec S_ 32 := constantI S_ 32 50000#32
  let v2 : IVec S32x1x1 32 := broadcastInDim S32x1x1 ![] bcast_S_S32x1x1 c_0
  let v3 : IVec S32x1x1 32 := addi arg1 v2
  let v4 : IVec S32x1x1 32 := select v1 v3 arg1
  let v5 : FVec F S32x1x32 .f32 := (fun x i => Host.gather gather_S32x50000x32_S32x1x1_S32x1x32_2_1_0_0_1_2_1132 x i) arg0 v4
  v5

def fn_part4 {F : FTy → Type} [FloatOps F] (main_arg7 : FVec F S32x32 .f32) (main_v73 : IVec S32x32 1) (main_v74 : FVec F S32x32 .f32) : IVec S32x32 1 :=
  let main_v75 : IVec S32x32 1 := cmpf .ole main_arg7 main_v74
  let main_v76 : IVec S32x32 1 := andi main_v73 main_v75
  main_v76

def fn_part3 {F : FTy → Type} [FloatOps F] (main_arg4 : FVec F S32x32 .f32) (main_arg7 : FVec F S32x32 .f32) (main_v7 : FVec F S32x50000x32 .f32) (main_indices : IVec S32x1 32) (main_v50 : FVec F S32x50000 .f32) (main_v54 : FVec F S32x1 .f32) : IVec S32x32 1 :=
  let main_v55 : FVec F S32x50000 .f32 := broadcastInDim S32x50000 ![0, 1] bcast_S32x1_S32x50000_0_1 main_v54
  let main_v56 : FVec F S32x50000 .f32 := Host.divf main_v50 main_v55
  let main_v57 : FVec F S32x50000x1 .f32 := broadcastInDim S32x50000x1 ![0, 1] bcast_S32x50000_S32x50000x1_0_1 main_v56
  let main_v58 : FVec F S32x1x32 .f32 := broadcastInDim S32x1x32 ![0, 2] bcast_S32x32_S32x1x32_0_2 main_arg4
  let main_v59 : FVec F S32x50000x32 .f32 := broadcastInDim S32x50000x32 ![0, 1, 2] bcast_S32x1x32_S32x50000x32_0_1_2 main_v58
  let main_v60 : FVec F S32x50000x32 .f32 := subf main_v59 main_v7
  let main_v61 : FVec F S32x50000x32 .f32 := broadcastInDim S32x50000x32 ![0, 1, 2] bcast_S32x50000x1_S32x50000x32_0_1_2 main_v57
  let main_v62 : FVec F S32x50000x32 .f32 := mulf main_v61 main_v60
  let main_v63 : FVec F S32x50000x32 .f32 := addf main_v7 main_v62
  let main_v64 : IVec S32x1x1 32 := broadcastInDim S32x1x1 ![0, 1] bcast_S32x1_S32x1x1_0_1 main_indices
  let main_v65 : FVec F S32x1x32 .f32 := fn_take_along_axis (F := F) main_v63 main_v64
  let main_v66 : FVec F S32x32 .f32 := shapeCast S32x32 main_v65 shapeCasts_S32x1x32_S32x32
  let main_cst_14 : FVec F S_ .f32 := constant S_ .f32 0x3F800000#32
  let main_cst_15 : FVec F S_ .f32 := constant S_ .f32 0x49742400#32
  let main_v67 : FVec F S_ .f32 := Host.divf main_cst_14 main_cst_15
  let main_cst_16 : FVec F S_ .f32 := constant S_ .f32 0x49742400#32
  let main_v68 : FVec F S_ .f32 := Host.divf main_v67 main_cst_16
  let main_cst_17 : FVec F S_ .f32 := constant S_ .f32 0x3F800000#32
  let main_v69 : FVec F S_ .f32 := subf main_cst_17 main_v68
  let main_v70 : FVec F S32x32 .f32 := broadcastInDim S32x32 ![] bcast_S_S32x32 main_v69
  let main_v71 : FVec F S32x32 .f32 := mulf main_v66 main_v70
  let main_v72 : FVec F S32x32 .f32 := minimumf main_v71 main_v66
  let main_v73 : IVec S32x32 1 := cmpf .ole main_v72 main_arg7
  let main_v74 : FVec F S32x32 .f32 := maximumf main_v71 main_v66
  fn_part4 (F := F) main_arg7 main_v73 main_v74

def fn_part2 {F : FTy → Type} [FloatOps F] (main_arg2 : FVec F S32x1 .f32) (main_arg4 : FVec F S32x32 .f32) (main_arg7 : FVec F S32x32 .f32) (main_v2 : FVec F S_ .f32) (main_v3 : FVec F S_ .f32) (main_v7 : FVec F S32x50000x32 .f32) (main_v35 : FVec F S32x50000 .f32) : IVec S32x32 1 :=
  let main_values : FVec F S32x1 .f32 := (fun x => (Host.topK S32x1 1 (FloatOps.cmpfTotal .gt) x sliceFits_S32x50000_S32x1).1) main_v35
  let main_indices : IVec S32x1 32 := (fun x => (Host.topK S32x1 1 (FloatOps.cmpfTotal .gt) x sliceFits_S32x50000_S32x1).2) main_v35
  let main_v36 : IVec S32x50000 32 := iotaInDim S32x50000 32 1
  let main_v37 : IVec S32x50000 32 := broadcastInDim S32x50000 ![0, 1] bcast_S32x1_S32x50000_0_1 main_indices
  let main_v38 : IVec S32x50000 1 := cmpi .eq main_v36 main_v37
  let main_cst_11 : FVec F S_ .f32 := constant S_ .f32 0x3F800000#32
  let main_v39 : FVec F S32x50000 .f32 := broadcastInDim S32x50000 ![] bcast_S_S32x50000 main_cst_11
  let main_v40 : FVec F S32x50000 .f32 := broadcastInDim S32x50000 ![] bcast_S_S32x50000 main_v2
  let main_v41 : FVec F S32x50000 .f32 := select main_v38 main_v39 main_v40
  let main_v42 : FVec F S32x50000 .f32 := mulf main_v35 main_v41
  let main_cst_12 : FVec F S_ .f32 := constant S_ .f32 0x00000000#32
  let main_v43 : FVec F S32 .f32 := (fun x v => Host.reduceAdd x v reducesTo_S32x50000_S32_d1 h_S_) main_v42 main_cst_12
  let main_v44 : FVec F S32x1 .f32 := broadcastInDim S32x1 ![0] bcast_S32_S32x1_0 main_v43
  let main_v45 : FVec F S32x50000 .f32 := broadcastInDim S32x50000 ![0, 1] bcast_S32x1_S32x50000_0_1 main_v44
  let main_v46 : FVec F S32x50000 .f32 := Host.divf main_v42 main_v45
  let main_v47 : FVec F S32x50000 .f32 := broadcastInDim S32x50000 ![] bcast_S_S32x50000 main_v3
  let main_v48 : FVec F S32x50000 .f32 := addf main_v46 main_v47
  let main_v49 : FVec F S32x50000 .f32 := broadcastInDim S32x50000 ![0, 1] bcast_S32x1_S32x50000_0_1 main_arg2
  let main_v50 : FVec F S32x50000 .f32 := Host.powf main_v48 main_v49
  let main_cst_13 : FVec F S_ .f32 := constant S_ .f32 0x00000000#32
  let main_v51 : FVec F S32 .f32 := (fun x v => Host.reduceAdd x v reducesTo_S32x50000_S32_d1 h_S_) main_v50 main_cst_13
  let main_v52 : FVec F S32x1 .f32 := broadcastInDim S32x1 ![0] bcast_S32_S32x1_0 main_v51
  let main_v53 : FVec F S32x1 .f32 := broadcastInDim S32x1 ![] bcast_S_S32x1 main_v3
  let main_v54 : FVec F S32x1 .f32 := addf main_v52 main_v53
  fn_part3 (F := F) main_arg4 main_arg7 main_v7 main_indices main_v50 main_v54

def fn_part1 {F : FTy → Type} [FloatOps F] (main_arg1 : FVec F S32x1 .f32) (main_arg2 : FVec F S32x1 .f32) (main_arg4 : FVec F S32x32 .f32) (main_arg7 : FVec F S32x32 .f32) (main_v0 : FVec F S_ .f32) (main_v2 : FVec F S_ .f32) (main_v3 : FVec F S_ .f32) (main_v5 : FVec F S32x50000x32 .f32) (main_v7 : FVec F S32x50000x32 .f32) (main_v8 : FVec F S32x1x32 .f32) (main_v13 : FVec F S32x50000 .f32) (main_v14 : FVec F S32x1x32 .f32) (main_cst_7 : FVec F S_ .f32) : IVec S32x32 1 :=
  let main_v15 : FVec F S32x1 .f32 := (fun x v => Host.reduceAdd x v reducesTo_S32x1x32_S32x1_d2 h_S_) main_v14 main_cst_7
  let main_v16 : FVec F S32x1 .f32 := Host.sqrt main_v15
  let main_v17 : FVec F S32x1 .f32 := broadcastInDim S32x1 ![] bcast_S_S32x1 main_v0
  let main_v18 : FVec F S32x1 .f32 := maximumf main_v16 main_v17
  let main_v19 : FVec F S32x50000x32 .f32 := broadcastInDim S32x50000x32 ![0, 1, 2] bcast_S32x1x32_S32x50000x32_0_1_2 main_v8
  let main_v20 : FVec F S32x50000x32 .f32 := mulf main_v5 main_v19
  let main_cst_8 : FVec F S_ .f32 := constant S_ .f32 0x00000000#32
  let main_v21 : FVec F S32x50000 .f32 := (fun x v => Host.reduceAdd x v reducesTo_S32x50000x32_S32x50000_d2 h_S_) main_v20 main_cst_8
  let main_v22 : FVec F S32x50000 .f32 := broadcastInDim S32x50000 ![0, 1] bcast_S32x1_S32x50000_0_1 main_v18
  let main_v23 : FVec F S32x50000 .f32 := mulf main_v13 main_v22
  let main_v24 : FVec F S32x50000 .f32 := Host.divf main_v21 main_v23
  let main_v25 : FVec F S32x50000 .f32 := broadcastInDim S32x50000 ![0, 1] bcast_S32x1_S32x50000_0_1 main_arg1
  let main_v26 : FVec F S32x50000 .f32 := mulf main_v25 main_v24
  let main_cst_9 : FVec F S_ .f32 := constant S_ .f32 0xFF800000#32
  let main_v27 : FVec F S32 .f32 := (fun x v => Host.reduce FloatOps.maximumf x v reducesTo_S32x50000_S32_d1 h_S_) main_v26 main_cst_9
  let main_v28 : FVec F S32x1 .f32 := broadcastInDim S32x1 ![0] bcast_S32_S32x1_0 main_v27
  let main_v29 : FVec F S32x50000 .f32 := broadcastInDim S32x50000 ![0, 1] bcast_S32x1_S32x50000_0_1 main_v28
  let main_v30 : FVec F S32x50000 .f32 := subf main_v26 main_v29
  let main_v31 : FVec F S32x50000 .f32 := Host.exp main_v30
  let main_cst_10 : FVec F S_ .f32 := constant S_ .f32 0x00000000#32
  let main_v32 : FVec F S32 .f32 := (fun x v => Host.reduceAdd x v reducesTo_S32x50000_S32_d1 h_S_) main_v31 main_cst_10
  let main_v33 : FVec F S32x1 .f32 := broadcastInDim S32x1 ![0] bcast_S32_S32x1_0 main_v32
  let main_v34 : FVec F S32x50000 .f32 := broadcastInDim S32x50000 ![0, 1] bcast_S32x1_S32x50000_0_1 main_v33
  let main_v35 : FVec F S32x50000 .f32 := Host.divf main_v31 main_v34
  fn_part2 (F := F) main_arg2 main_arg4 main_arg7 main_v2 main_v3 main_v7 main_v35

def fn {F : FTy → Type} [FloatOps F] (main_arg0 : FVec F S32x32 .f32) (main_arg1 : FVec F S32x1 .f32) (main_arg2 : FVec F S32x1 .f32) (main_arg3 : FVec F S32x32 .f32) (main_arg4 : FVec F S32x32 .f32) (main_arg5 : FVec F S50000x32 .f32) (main_arg6 : FVec F S50000x32 .f32) (main_arg7 : FVec F S32x32 .f32) : IVec S32x32 1 :=
  let main_cst : FVec F S_ .f32 := constant S_ .f32 0x3F800000#32
  let main_cst_0 : FVec F S_ .f32 := constant S_ .f32 0x4CBEBC20#32
  let main_v0 : FVec F S_ .f32 := Host.divf main_cst main_cst_0
  let main_cst_1 : FVec F S_ .f32 := constant S_ .f32 0x3F800000#32
  let main_cst_2 : FVec F S_ .f32 := constant S_ .f32 0x4CBEBC20#32
  let main_v1 : FVec F S_ .f32 := Host.divf main_cst_1 main_cst_2
  let main_cst_3 : FVec F S_ .f32 := constant S_ .f32 0x4CBEBC20#32
  let main_v2 : FVec F S_ .f32 := Host.divf main_v1 main_cst_3
  let main_cst_4 : FVec F S_ .f32 := constant S_ .f32 0x3F800000#32
  let main_cst_5 : FVec F S_ .f32 := constant S_ .f32 0x501502F9#32
  let main_v3 : FVec F S_ .f32 := Host.divf main_cst_4 main_cst_5
  let main_v4 : FVec F S1x50000x32 .f32 := broadcastInDim S1x50000x32 ![1, 2] bcast_S50000x32_S1x50000x32_1_2 main_arg6
  let main_v5 : FVec F S32x50000x32 .f32 := broadcastInDim S32x50000x32 ![0, 1, 2] bcast_S1x50000x32_S32x50000x32_0_1_2 main_v4
  let main_v6 : FVec F S1x50000x32 .f32 := broadcastInDim S1x50000x32 ![1, 2] bcast_S50000x32_S1x50000x32_1_2 main_arg5
  let main_v7 : FVec F S32x50000x32 .f32 := broadcastInDim S32x50000x32 ![0, 1, 2] bcast_S1x50000x32_S32x50000x32_0_1_2 main_v6
  let main_v8 : FVec F S32x1x32 .f32 := shapeCast S32x1x32 main_arg0 shapeCasts_S32x32_S32x1x32
  let main_v9 : FVec F S32x50000x32 .f32 := mulf main_v5 main_v5
  let main_cst_6 : FVec F S_ .f32 := constant S_ .f32 0x00000000#32
  let main_v10 : FVec F S32x50000 .f32 := (fun x v => Host.reduceAdd x v reducesTo_S32x50000x32_S32x50000_d2 h_S_) main_v9 main_cst_6
  let main_v11 : FVec F S32x50000 .f32 := Host.sqrt main_v10
  let main_v12 : FVec F S32x50000 .f32 := broadcastInDim S32x50000 ![] bcast_S_S32x50000 main_v0
  let main_v13 : FVec F S32x50000 .f32 := maximumf main_v11 main_v12
  let main_v14 : FVec F S32x1x32 .f32 := mulf main_v8 main_v8
  let main_cst_7 : FVec F S_ .f32 := constant S_ .f32 0x00000000#32
  fn_part1 (F := F) main_arg1 main_arg2 main_arg4 main_arg7 main_v0 main_v2 main_v3 main_v5 main_v7 main_v8 main_v13 main_v14 main_cst_7
-- ==== Pre_affine_power.lean ====
abbrev S32x32 : Shape := ⟨2, ![32, 32]⟩
abbrev S32x1 : Shape := ⟨2, ![32, 1]⟩
abbrev S50000x32 : Shape := ⟨2, ![50000, 32]⟩
abbrev S_ : Shape := ⟨0, ![]⟩

class Facts : Prop where
  bcast_S_S50000x32 : S_.BroadcastsInDim S50000x32 (![] : Fin 0 → Fin S50000x32.rank)
  bcast_S_S32x1 : S_.BroadcastsInDim S32x1 (![] : Fin 0 → Fin S32x1.rank)

variable [Facts]

def fn {F : FTy → Type} [FloatOps F] (main_arg0 : FVec F S32x32 .f32) (main_arg1 : FVec F S32x1 .f32) (main_arg2 : FVec F S32x1 .f32) (main_arg3 : FVec F S32x32 .f32) (main_arg4 : FVec F S32x32 .f32) (main_arg5 : FVec F S50000x32 .f32) (main_arg6 : FVec F S50000x32 .f32) : IVec S50000x32 1 × IVec S32x1 1 × IVec S32x1 1 :=
  let main_cst : FVec F S_ .f32 := constant S_ .f32 0x00000000#32
  let main_v0 : FVec F S50000x32 .f32 := broadcastInDim S50000x32 ![] bcast_S_S50000x32 main_cst
  let main_v1 : IVec S50000x32 1 := cmpf .oeq main_arg5 main_v0
  let main_v2 : FVec F S32x1 .f32 := Host.absf main_arg1
  let main_cst_0 : FVec F S_ .f32 := constant S_ .f32 0x7F800000#32
  let main_v3 : FVec F S32x1 .f32 := broadcastInDim S32x1 ![] bcast_S_S32x1 main_cst_0
  let main_v4 : IVec S32x1 1 := cmpf .olt main_v2 main_v3
  let main_cst_1 : FVec F S_ .f32 := constant S_ .f32 0x00000000#32
  let main_v5 : FVec F S32x1 .f32 := broadcastInDim S32x1 ![] bcast_S_S32x1 main_cst_1
  let main_v6 : IVec S32x1 1 := cmpf .oeq main_arg2 main_v5
  let main_cst_2 : FVec F S_ .f32 := constant S_ .f32 0x3F800000#32
  let main_v7 : FVec F S32x1 .f32 := broadcastInDim S32x1 ![] bcast_S_S32x1 main_cst_2
  let main_v8 : IVec S32x1 1 := cmpf .oeq main_arg2 main_v7
  let main_v9 : IVec S32x1 1 := ori main_v6 main_v8
  (main_v1, main_v4, main_v9)
-- ==== Pre_drawn_inputs.lean ====
abbrev S32x32 : Shape := ⟨2, ![32, 32]⟩
abbrev S32x1 : Shape := ⟨2, ![32, 1]⟩
abbrev S50000x32 : Shape := ⟨2, ![50000, 32]⟩
abbrev S_ : Shape := ⟨0, ![]⟩

class Facts : Prop where
  bcast_S_S50000x32 : S_.BroadcastsInDim S50000x32 (![] : Fin 0 → Fin S50000x32.rank)
  bcast_S_S32x1 : S_.BroadcastsInDim S32x1 (![] : Fin 0 → Fin S32x1.rank)

variable [Facts]

def fn {F : FTy → Type} [FloatOps F] (main_arg0 : FVec F S32x32 .f32) (main_arg1 : FVec F S32x1 .f32) (main_arg2 : FVec F S32x1 .f32) (main_arg3 : FVec F S32x32 .f32) (main_arg4 : FVec F S32x32 .f32) (main_arg5 : FVec F S50000x32 .f32) (main_arg6 : FVec F S50000x32 .f32) : IVec S50000x32 1 × IVec S32x1 1 × IVec S32x1 1 :=
  let main_cst : FVec F S_ .f32 := constant S_ .f32 0x00000000#32
  let main_v0 : FVec F S50000x32 .f32 := broadcastInDim S50000x32 ![] bcast_S_S50000x32 main_cst
  let main_v1 : IVec S50000x32 1 := cmpf .oeq main_arg5 main_v0
  let main_v2 : FVec F S32x1 .f32 := Host.absf main_arg1
  let main_cst_0 : FVec F S_ .f32 := constant S_ .f32 0x7F800000#32
  let main_v3 : FVec F S32x1 .f32 := broadcastInDim S32x1 ![] bcast_S_S32x1 main_cst_0
  let main_v4 : IVec S32x1 1 := cmpf .olt main_v2 main_v3
  let main_cst_1 : FVec F S_ .f32 := constant S_ .f32 0x00000000#32
  let main_v5 : FVec F S32x1 .f32 := broadcastInDim S32x1 ![] bcast_S_S32x1 main_cst_1
  let main_v6 : IVec S32x1 1 := cmpf .oge main_arg2 main_v5
  let main_cst_2 : FVec F S_ .f32 := constant S_ .f32 0x3F800000#32
  let main_v7 : FVec F S32x1 .f32 := broadcastInDim S32x1 ![] bcast_S_S32x1 main_cst_2
  let main_v8 : IVec S32x1 1 := cmpf .ole main_arg2 main_v7
  let main_v9 : IVec S32x1 1 := andi main_v6 main_v8
  (main_v1, main_v4, main_v9)
-- ==== Pre_zero_content.lean ====
abbrev S32x32 : Shape := ⟨2, ![32, 32]⟩
abbrev S32x1 : Shape := ⟨2, ![32, 1]⟩
abbrev S50000x32 : Shape := ⟨2, ![50000, 32]⟩
abbrev S_ : Shape := ⟨0, ![]⟩

class Facts : Prop where
  bcast_S_S50000x32 : S_.BroadcastsInDim S50000x32 (![] : Fin 0 → Fin S50000x32.rank)
  bcast_S_S32x1 : S_.BroadcastsInDim S32x1 (![] : Fin 0 → Fin S32x1.rank)

variable [Facts]

def fn {F : FTy → Type} [FloatOps F] (main_arg0 : FVec F S32x32 .f32) (main_arg1 : FVec F S32x1 .f32) (main_arg2 : FVec F S32x1 .f32) (main_arg3 : FVec F S32x32 .f32) (main_arg4 : FVec F S32x32 .f32) (main_arg5 : FVec F S50000x32 .f32) (main_arg6 : FVec F S50000x32 .f32) : IVec S50000x32 1 × IVec S32x1 1 :=
  let main_cst : FVec F S_ .f32 := constant S_ .f32 0x00000000#32
  let main_v0 : FVec F S50000x32 .f32 := broadcastInDim S50000x32 ![] bcast_S_S50000x32 main_cst
  let main_v1 : IVec S50000x32 1 := cmpf .oeq main_arg5 main_v0
  let main_v2 : FVec F S32x1 .f32 := Host.absf main_arg1
  let main_cst_0 : FVec F S_ .f32 := constant S_ .f32 0x7F800000#32
  let main_v3 : FVec F S32x1 .f32 := broadcastInDim S32x1 ![] bcast_S_S32x1 main_cst_0
  let main_v4 : IVec S32x1 1 := cmpf .olt main_v2 main_v3
  (main_v1, main_v4)
-- ==== Kernel.lean ====
abbrev S32x32 : Shape := ⟨2, ![32, 32]⟩
abbrev S32x1 : Shape := ⟨2, ![32, 1]⟩
abbrev S50000x32 : Shape := ⟨2, ![50000, 32]⟩
abbrev S10000x32 : Shape := ⟨2, ![10000, 32]⟩
abbrev S32x8 : Shape := ⟨2, ![32, 8]⟩
abbrev S32 : Shape := ⟨1, ![32]⟩
abbrev S32x10000 : Shape := ⟨2, ![32, 10000]⟩
abbrev S1x32 : Shape := ⟨2, ![1, 32]⟩
abbrev S1x10000 : Shape := ⟨2, ![1, 10000]⟩

abbrev nBuf : Space → Nat
  | .hbm => 9
  | .vmem => 8
  | .smem => 0
  | _ => 0

abbrev bufTy : (tb : Table) → Fin (tcTables nBuf tb) → BufTy
  | .hbm, ⟨0, _⟩ => ⟨S32x32, .f32⟩
  | .hbm, ⟨1, _⟩ => ⟨S32x1, .f32⟩
  | .hbm, ⟨2, _⟩ => ⟨S32x1, .f32⟩
  | .hbm, ⟨3, _⟩ => ⟨S32x32, .f32⟩
  | .hbm, ⟨4, _⟩ => ⟨S32x32, .f32⟩
  | .hbm, ⟨5, _⟩ => ⟨S50000x32, .f32⟩
  | .hbm, ⟨6, _⟩ => ⟨S50000x32, .f32⟩
  | .hbm, ⟨7, _⟩ => ⟨S50000x32, .bf16⟩
  | .hbm, ⟨8, _⟩ => ⟨S32x32, .f32⟩
  | .local _ .vmem, ⟨0, _⟩ => ⟨S10000x32, .bf16⟩
  | .local _ .vmem, ⟨1, _⟩ => ⟨S10000x32, .bf16⟩
  | .local _ .vmem, ⟨2, _⟩ => ⟨S32x32, .f32⟩
  | .local _ .vmem, ⟨3, _⟩ => ⟨S32x1, .f32⟩
  | .local _ .vmem, ⟨4, _⟩ => ⟨S32x1, .f32⟩
  | .local _ .vmem, ⟨5, _⟩ => ⟨S32x32, .f32⟩
  | .local _ .vmem, ⟨6, _⟩ => ⟨S32x32, .f32⟩
  | .local _ .vmem, ⟨7, _⟩ => ⟨S32x8, .f32⟩
  | _, _ => ⟨S32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨1, ![5], ![false]⟩

def k0_cond3 (i : grid0.Coords) : BitVec 1 :=
  let arg0 : BitVec 32 := BitVec.ofNat 32 (i 0).val
  let c4_i32 : BitVec 32 := 4#32
  let v37 : BitVec 1 := Scalar.cmpi .eq arg0 c4_i32
  let v38 : BitVec 32 := Scalar.extui v37
  let c0_i32_15 : BitVec 32 := 0#32
  let v39 : BitVec 1 := Scalar.cmpi .ne v38 c0_i32_15
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "eps" => some ((1 / 100000000 : ℝ) : EReal)
  | "floor" => some ((1 / 10000000000000000 : ℝ) : EReal)
  | "log_tiny" => some ((-(10 * (Real.log 10)) : ℝ) : EReal)
  | "ratio" => some ((1 / 1000000 : ℝ) : EReal)
  | "tiny" => some ((1 / 10000000000 : ℝ) : EReal)
  | _ => none
-- ==== ReferenceIdeal.lean ====
abbrev S32x32 : Shape := ⟨2, ![32, 32]⟩
abbrev S32x1 : Shape := ⟨2, ![32, 1]⟩
abbrev S50000x32 : Shape := ⟨2, ![50000, 32]⟩
abbrev S_ : Shape := ⟨0, ![]⟩
abbrev S1x50000x32 : Shape := ⟨3, ![1, 50000, 32]⟩
abbrev S32x50000x32 : Shape := ⟨3, ![32, 50000, 32]⟩
abbrev S32x1x32 : Shape := ⟨3, ![32, 1, 32]⟩
abbrev S32x50000 : Shape := ⟨2, ![32, 50000]⟩
abbrev S32 : Shape := ⟨1, ![32]⟩
abbrev S32x50000x1 : Shape := ⟨3, ![32, 50000, 1]⟩
abbrev S32x1x1 : Shape := ⟨3, ![32, 1, 1]⟩

abbrev nBuf : Space → Nat
  | .hbm => 98
  | .vmem => 0
  | .smem => 0
  | _ => 0

abbrev bufTy : (tb : Table) → Fin (tcTables nBuf tb) → BufTy
  | .hbm, ⟨0, _⟩ => ⟨S32x32, .f32⟩
  | .hbm, ⟨1, _⟩ => ⟨S32x1, .f32⟩
  | .hbm, ⟨2, _⟩ => ⟨S32x1, .f32⟩
  | .hbm, ⟨3, _⟩ => ⟨S32x32, .f32⟩
  | .hbm, ⟨4, _⟩ => ⟨S32x32, .f32⟩
  | .hbm, ⟨5, _⟩ => ⟨S50000x32, .f32⟩
  | .hbm, ⟨6, _⟩ => ⟨S50000x32, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x50000x32, .f32⟩
  | .hbm, ⟨19, _⟩ => ⟨S32x50000x32, .f32⟩
  | .hbm, ⟨20, _⟩ => ⟨S1x50000x32, .f32⟩
  | .hbm, ⟨21, _⟩ => ⟨S32x50000x32, .f32⟩
  | .hbm, ⟨22, _⟩ => ⟨S32x1x32, .f32⟩
  | .hbm, ⟨23, _⟩ => ⟨S32x50000x32, .f32⟩
  | .hbm, ⟨24, _⟩ => ⟨S_, .f32⟩
  | .hbm, ⟨25, _⟩ => ⟨S32x50000, .f32⟩
  | .hbm, ⟨26, _⟩ => ⟨S32x50000, .f32⟩
  | .hbm, ⟨27, _⟩ => ⟨S32x50000, .f32⟩
  | .hbm, ⟨28, _⟩ => ⟨S32x50000, .f32⟩
  | .hbm, ⟨29, _⟩ => ⟨S32x1x32, .f32⟩
  | .hbm, ⟨30, _⟩ => ⟨S_, .f32⟩
  | .hbm, ⟨31, _⟩ => ⟨S32x1, .f32⟩
  | .hbm, ⟨32, _⟩ => ⟨S32x1, .f32⟩
  | .hbm, ⟨33, _⟩ => ⟨S32x1, .f32⟩
  | .hbm, ⟨34, _⟩ => ⟨S32x1, .f32⟩
  | .hbm, ⟨35, _⟩ => ⟨S32x50000x32, .f32⟩
  | .hbm, ⟨36, _⟩ => ⟨S32x50000x32, .f32⟩
  | .hbm, ⟨37, _⟩ => ⟨S_, .f32⟩
  | .hbm, ⟨38, _⟩ => ⟨S32x50000, .f32⟩
  | .hbm, ⟨39, _⟩ => ⟨S32x50000, .f32⟩
  | .hbm, ⟨40, _⟩ => ⟨S32x50000, .f32⟩
  | .hbm, ⟨41, _⟩ => ⟨S32x50000, .f32⟩
  | .hbm, ⟨42, _⟩ => ⟨S32x50000, .f32⟩
  | .hbm, ⟨43, _⟩ => ⟨S32x50000, .f32⟩
  | .hbm, ⟨44, _⟩ => ⟨S_, .f32⟩
  | .hbm, ⟨45, _⟩ => ⟨S32, .f32⟩
  | .hbm, ⟨46, _⟩ => ⟨S32x1, .f32⟩
  | .hbm, ⟨47, _⟩ => ⟨S32x50000, .f32⟩
  | .hbm, ⟨48, _⟩ => ⟨S32x50000, .f32⟩
  | .hbm, ⟨49, _⟩ => ⟨S32x50000, .f32⟩
  | .hbm, ⟨50, _⟩ => ⟨S_, .f32⟩
  | .hbm, ⟨51, _⟩ => ⟨S32, .f32⟩
  | .hbm, ⟨52, _⟩ => ⟨S32x1, .f32⟩
  | .hbm, ⟨53, _⟩ => ⟨S32x50000, .f32⟩
  | .hbm, ⟨54, _⟩ => ⟨S32x50000, .f32⟩
  | .hbm, ⟨55, _⟩ => ⟨S32x1, .f32⟩
  | .hbm, ⟨56, _⟩ => ⟨S32x1, .i32⟩
  | .hbm, ⟨57, _⟩ => ⟨S32x50000, .i32⟩
  | .hbm, ⟨58, _⟩ => ⟨S32x50000, .i32⟩
  | .hbm, ⟨59, _⟩ => ⟨S32x50000, .i1⟩
  | .hbm, ⟨60, _⟩ => ⟨S_, .f32⟩
  | .hbm, ⟨61, _⟩ => ⟨S32x50000, .f32⟩
  | .hbm, ⟨62, _⟩ => ⟨S32x50000, .f32⟩
  | .hbm, ⟨63, _⟩ => ⟨S32x50000, .f32⟩
  | .hbm, ⟨64, _⟩ => ⟨S32x50000, .f32⟩
  | .hbm, ⟨65, _⟩ => ⟨S_, .f32⟩
  | .hbm, ⟨66, _⟩ => ⟨S32, .f32⟩
  | .hbm, ⟨67, _⟩ => ⟨S32x1, .f32⟩
  | .hbm, ⟨68, _⟩ => ⟨S32x50000, .f32⟩
  | .hbm, ⟨69, _⟩ => ⟨S32x50000, .f32⟩
  | .hbm, ⟨70, _⟩ => ⟨S32x50000, .f32⟩
  | .hbm, ⟨71, _⟩ => ⟨S32x50000, .f32⟩
  | .hbm, ⟨72, _⟩ => ⟨S32x50000, .f32⟩
  | .hbm, ⟨73, _⟩ => ⟨S32x50000, .f32⟩
  | .hbm, ⟨74, _⟩ => ⟨S_, .f32⟩
  | .hbm, ⟨75, _⟩ => ⟨S32, .f32⟩
  | .hbm, ⟨76, _⟩ => ⟨S32x1, .f32⟩
  | .hbm, ⟨77, _⟩ => ⟨S32x1, .f32⟩
  | .hbm, ⟨78, _⟩ => ⟨S32x1, .f32⟩
  | .hbm, ⟨79, _⟩ => ⟨S32x50000, .f32⟩
  | .hbm, ⟨80, _⟩ => ⟨S32x50000, .f32⟩
  | .hbm, ⟨81, _⟩ => ⟨S32x50000x1, .f32⟩
  | .hbm, ⟨82, _⟩ => ⟨S32x1x32, .f32⟩
  | .hbm, ⟨83, _⟩ => ⟨S32x50000x32, .f32⟩
  | .hbm, ⟨84, _⟩ => ⟨S32x50000x32, .f32⟩
  | .hbm, ⟨85, _⟩ => ⟨S32x50000x32, .f32⟩
  | .hbm, ⟨86, _⟩ => ⟨S32x50000x32, .f32⟩
  | .hbm, ⟨87, _⟩ => ⟨S32x50000x32, .f32⟩
  | .hbm, ⟨88, _⟩ => ⟨S32x1x1, .i32⟩
  | .hbm, ⟨89, _⟩ => ⟨S_, .i32⟩
  | .hbm, ⟨90, _⟩ => ⟨S32x1x1, .i32⟩
  | .hbm, ⟨91, _⟩ => ⟨S32x1x1, .i1⟩
  | .hbm, ⟨92, _⟩ => ⟨S_, .i32⟩
  | .hbm, ⟨93, _⟩ => ⟨S32x1x1, .i32⟩
  | .hbm, ⟨94, _⟩ => ⟨S32x1x1, .i32⟩
  | .hbm, ⟨95, _⟩ => ⟨S32x1x1, .i32⟩
  | .hbm, ⟨96, _⟩ => ⟨S32x1x32, .f32⟩
  | .hbm, ⟨97, _⟩ => ⟨S32x32, .f32⟩
  | _, _ => ⟨S32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_cst_1 : Ref sig .tc := ⟨.hbm, 10, rfl⟩
abbrev main_cst_2 : Ref sig .tc := ⟨.hbm, 11, rfl⟩
abbrev main_v1 : Ref sig .tc := ⟨.hbm, 12, rfl⟩
abbrev main_cst_3 : Ref sig .tc := ⟨.hbm, 13, rfl⟩
abbrev main_v2 : Ref sig .tc := ⟨.hbm, 14, rfl⟩
abbrev main_cst_4 : Ref sig .tc := ⟨.hbm, 15, rfl⟩
abbrev main_cst_5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_6 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_7 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_8 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_9 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_values : Ref sig .tc := ⟨.hbm, 55, rfl⟩
abbrev main_indices : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_11 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_12 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_13 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call0_c : Ref sig .tc := ⟨.hbm, 89, rfl⟩
abbrev main_call0_v0 : Ref sig .tc := ⟨.hbm, 90, rfl⟩
abbrev main_call0_v1 : Ref sig .tc := ⟨.hbm, 91, rfl⟩
abbrev main_call0_c_0 : Ref sig .tc := ⟨.hbm, 92, rfl⟩
abbrev main_call0_v2 : Ref sig .tc := ⟨.hbm, 93, rfl⟩
abbrev main_call0_v3 : Ref sig .tc := ⟨.hbm, 94, rfl⟩
abbrev main_call0_v4 : Ref sig .tc := ⟨.hbm, 95, rfl⟩
abbrev main_v65 : Ref sig .tc := ⟨.hbm, 96, rfl⟩
abbrev main_v66 : Ref sig .tc := ⟨.hbm, 97, rfl⟩

abbrev nD : Nat := 1
abbrev τ : Topo := Topo.v7x

variable {F : FTy → Type} [FloatOps F]
-- ==== FirstOrderIdeal.lean ====
abbrev S32x32 : Shape := ⟨2, ![32, 32]⟩
abbrev S32x1 : Shape := ⟨2, ![32, 1]⟩
abbrev S50000x32 : Shape := ⟨2, ![50000, 32]⟩
abbrev S_ : Shape := ⟨0, ![]⟩
abbrev S1x50000x32 : Shape := ⟨3, ![1, 50000, 32]⟩
abbrev S32x50000x32 : Shape := ⟨3, ![32, 50000, 32]⟩
abbrev S32x1x32 : Shape := ⟨3, ![32, 1, 32]⟩
abbrev S32x50000 : Shape := ⟨2, ![32, 50000]⟩
abbrev S32 : Shape := ⟨1, ![32]⟩
abbrev S32x50000x1 : Shape := ⟨3, ![32, 50000, 1]⟩
abbrev S32x1x1 : Shape := ⟨3, ![32, 1, 1]⟩

abbrev nBuf : Space → Nat
  | .hbm => 110
  | .vmem => 0
  | .smem => 0
  | _ => 0

abbrev bufTy : (tb : Table) → Fin (tcTables nBuf tb) → BufTy
  | .hbm, ⟨0, _⟩ => ⟨S32x32, .f32⟩
  | .hbm, ⟨1, _⟩ => ⟨S32x1, .f32⟩
  | .hbm, ⟨2, _⟩ => ⟨S32x1, .f32⟩
  | .hbm, ⟨3, _⟩ => ⟨S32x32, .f32⟩
  | .hbm, ⟨4, _⟩ => ⟨S32x32, .f32⟩
  | .hbm, ⟨5, _⟩ => ⟨S50000x32, .f32⟩
  | .hbm, ⟨6, _⟩ => ⟨S50000x32, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x50000x32, .f32⟩
  | .hbm, ⟨19, _⟩ => ⟨S32x50000x32, .f32⟩
  | .hbm, ⟨20, _⟩ => ⟨S1x50000x32, .f32⟩
  | .hbm, ⟨21, _⟩ => ⟨S32x50000x32, .f32⟩
  | .hbm, ⟨22, _⟩ => ⟨S32x1x32, .f32⟩
  | .hbm, ⟨23, _⟩ => ⟨S32x50000x32, .f32⟩
  | .hbm, ⟨24, _⟩ => ⟨S_, .f32⟩
  | .hbm, ⟨25, _⟩ => ⟨S32x50000, .f32⟩
  | .hbm, ⟨26, _⟩ => ⟨S32x50000, .f32⟩
  | .hbm, ⟨27, _⟩ => ⟨S32x50000, .f32⟩
  | .hbm, ⟨28, _⟩ => ⟨S32x50000, .f32⟩
  | .hbm, ⟨29, _⟩ => ⟨S32x1x32, .f32⟩
  | .hbm, ⟨30, _⟩ => ⟨S_, .f32⟩
  | .hbm, ⟨31, _⟩ => ⟨S32x1, .f32⟩
  | .hbm, ⟨32, _⟩ => ⟨S32x1, .f32⟩
  | .hbm, ⟨33, _⟩ => ⟨S32x1, .f32⟩
  | .hbm, ⟨34, _⟩ => ⟨S32x1, .f32⟩
  | .hbm, ⟨35, _⟩ => ⟨S32x50000x32, .f32⟩
  | .hbm, ⟨36, _⟩ => ⟨S32x50000x32, .f32⟩
  | .hbm, ⟨37, _⟩ => ⟨S_, .f32⟩
  | .hbm, ⟨38, _⟩ => ⟨S32x50000, .f32⟩
  | .hbm, ⟨39, _⟩ => ⟨S32x50000, .f32⟩
  | .hbm, ⟨40, _⟩ => ⟨S32x50000, .f32⟩
  | .hbm, ⟨41, _⟩ => ⟨S32x50000, .f32⟩
  | .hbm, ⟨42, _⟩ => ⟨S32x50000, .f32⟩
  | .hbm, ⟨43, _⟩ => ⟨S32x50000, .f32⟩
  | .hbm, ⟨44, _⟩ => ⟨S_, .f32⟩
  | .hbm, ⟨45, _⟩ => ⟨S32, .f32⟩
  | .hbm, ⟨46, _⟩ => ⟨S32x1, .f32⟩
  | .hbm, ⟨47, _⟩ => ⟨S32x50000, .f32⟩
  | .hbm, ⟨48, _⟩ => ⟨S32x50000, .f32⟩
  | .hbm, ⟨49, _⟩ => ⟨S32x50000, .f32⟩
  | .hbm, ⟨50, _⟩ => ⟨S_, .f32⟩
  | .hbm, ⟨51, _⟩ => ⟨S32, .f32⟩
  | .hbm, ⟨52, _⟩ => ⟨S32x1, .f32⟩
  | .hbm, ⟨53, _⟩ => ⟨S32x50000, .f32⟩
  | .hbm, ⟨54, _⟩ => ⟨S32x50000, .f32⟩
  | .hbm, ⟨55, _⟩ => ⟨S32x1, .f32⟩
  | .hbm, ⟨56, _⟩ => ⟨S32x1, .i32⟩
  | .hbm, ⟨57, _⟩ => ⟨S32x50000, .i32⟩
  | .hbm, ⟨58, _⟩ => ⟨S32x50000, .i32⟩
  | .hbm, ⟨59, _⟩ => ⟨S32x50000, .i1⟩
  | .hbm, ⟨60, _⟩ => ⟨S_, .f32⟩
  | .hbm, ⟨61, _⟩ => ⟨S32x50000, .f32⟩
  | .hbm, ⟨62, _⟩ => ⟨S32x50000, .f32⟩
  | .hbm, ⟨63, _⟩ => ⟨S32x50000, .f32⟩
  | .hbm, ⟨64, _⟩ => ⟨S32x50000, .f32⟩
  | .hbm, ⟨65, _⟩ => ⟨S_, .f32⟩
  | .hbm, ⟨66, _⟩ => ⟨S32, .f32⟩
  | .hbm, ⟨67, _⟩ => ⟨S32x1, .f32⟩
  | .hbm, ⟨68, _⟩ => ⟨S32x50000, .f32⟩
  | .hbm, ⟨69, _⟩ => ⟨S32x50000, .f32⟩
  | .hbm, ⟨70, _⟩ => ⟨S32x50000, .f32⟩
  | .hbm, ⟨71, _⟩ => ⟨S32x50000, .f32⟩
  | .hbm, ⟨72, _⟩ => ⟨S32x50000, .f32⟩
  | .hbm, ⟨73, _⟩ => ⟨S32x50000, .f32⟩
  | .hbm, ⟨74, _⟩ => ⟨S32x1, .f32⟩
  | .hbm, ⟨75, _⟩ => ⟨S32x1, .f32⟩
  | .hbm, ⟨76, _⟩ => ⟨S32x50000, .f32⟩
  | .hbm, ⟨77, _⟩ => ⟨S32x50000, .f32⟩
  | .hbm, ⟨78, _⟩ => ⟨S32x50000, .f32⟩
  | .hbm, ⟨79, _⟩ => ⟨S32x50000, .f32⟩
  | .hbm, ⟨80, _⟩ => ⟨S_, .f32⟩
  | .hbm, ⟨81, _⟩ => ⟨S32x50000, .f32⟩
  | .hbm, ⟨82, _⟩ => ⟨S32x50000, .f32⟩
  | .hbm, ⟨83, _⟩ => ⟨S32x50000, .f32⟩
  | .hbm, ⟨84, _⟩ => ⟨S32x50000, .f32⟩
  | .hbm, ⟨85, _⟩ => ⟨S32x50000, .f32⟩
  | .hbm, ⟨86, _⟩ => ⟨S_, .f32⟩
  | .hbm, ⟨87, _⟩ => ⟨S32, .f32⟩
  | .hbm, ⟨88, _⟩ => ⟨S32x1, .f32⟩
  | .hbm, ⟨89, _⟩ => ⟨S32x1, .f32⟩
  | .hbm, ⟨90, _⟩ => ⟨S32x1, .f32⟩
  | .hbm, ⟨91, _⟩ => ⟨S32x50000, .f32⟩
  | .hbm, ⟨92, _⟩ => ⟨S32x50000, .f32⟩
  | .hbm, ⟨93, _⟩ => ⟨S32x50000x1, .f32⟩
  | .hbm, ⟨94, _⟩ => ⟨S32x1x32, .f32⟩
  | .hbm, ⟨95, _⟩ => ⟨S32x50000x32, .f32⟩
  | .hbm, ⟨96, _⟩ => ⟨S32x50000x32, .f32⟩
  | .hbm, ⟨97, _⟩ => ⟨S32x50000x32, .f32⟩
  | .hbm, ⟨98, _⟩ => ⟨S32x50000x32, .f32⟩
  | .hbm, ⟨99, _⟩ => ⟨S32x50000x32, .f32⟩
  | .hbm, ⟨100, _⟩ => ⟨S32x1x1, .i32⟩
  | .hbm, ⟨101, _⟩ => ⟨S_, .i32⟩
  | .hbm, ⟨102, _⟩ => ⟨S32x1x1, .i32⟩
  | .hbm, ⟨103, _⟩ => ⟨S32x1x1, .i1⟩
  | .hbm, ⟨104, _⟩ => ⟨S_, .i32⟩
  | .hbm, ⟨105, _⟩ => ⟨S32x1x1, .i32⟩
  | .hbm, ⟨106, _⟩ => ⟨S32x1x1, .i32⟩
  | .hbm, ⟨107, _⟩ => ⟨S32x1x1, .i32⟩
  | .hbm, ⟨108, _⟩ => ⟨S32x1x32, .f32⟩
  | .hbm, ⟨109, _⟩ => ⟨S32x32, .f32⟩
  | _, _ => ⟨S32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_cst_1 : Ref sig .tc := ⟨.hbm, 10, rfl⟩
abbrev main_cst_2 : Ref sig .tc := ⟨.hbm, 11, rfl⟩
abbrev main_v1 : Ref sig .tc := ⟨.hbm, 12, rfl⟩
abbrev main_cst_3 : Ref sig .tc := ⟨.hbm, 13, rfl⟩
abbrev main_v2 : Ref sig .tc := ⟨.hbm, 14, rfl⟩
abbrev main_cst_4 : Ref sig .tc := ⟨.hbm, 15, rfl⟩
abbrev main_cst_5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_6 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_7 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_8 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_9 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_values : Ref sig .tc := ⟨.hbm, 55, rfl⟩
abbrev main_indices : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_11 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_12 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_14 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_call0_c : Ref sig .tc := ⟨.hbm, 101, rfl⟩
abbrev main_call0_v0 : Ref sig .tc := ⟨.hbm, 102, rfl⟩
abbrev main_call0_v1 : Ref sig .tc := ⟨.hbm, 103, rfl⟩
abbrev main_call0_c_0 : Ref sig .tc := ⟨.hbm, 104, rfl⟩
abbrev main_call0_v2 : Ref sig .tc := ⟨.hbm, 105, rfl⟩
abbrev main_call0_v3 : Ref sig .tc := ⟨.hbm, 106, rfl⟩
abbrev main_call0_v4 : Ref sig .tc := ⟨.hbm, 107, rfl⟩
abbrev main_v76 : Ref sig .tc := ⟨.hbm, 108, rfl⟩
abbrev main_v77 : Ref sig .tc := ⟨.hbm, 109, rfl⟩

abbrev nD : Nat := 1
abbrev τ : Topo := Topo.v7x

variable {F : FTy → Type} [FloatOps F]
-- ==== Proof.Kernel.Frame.lean ====
module

public import proofs.«01_k».proof.Proof.Gen.Kernel.Skeleton
public import proofs.«01_k».proof.Proof.Gen.Kernel.Frame

@[expose] public section

noncomputable section

/-! # The printed kernel runs and leaves its arguments as they were

Nothing is said here of what it computes: the output buffer and the scratch are held at some contents. -/

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-- The body runs its first conditional at the first point. -/
abbrev isFirst (i : grid0.Coords) : Prop := (Scalar.cmpi .ne (Scalar.extui (Scalar.cmpi .eq (BitVec.ofNat 32 (i 0).val) 0#32)) 0#32) = 1#1
/-- The body runs its second conditional at every later point. -/
abbrev isLater (i : grid0.Coords) : Prop := (Scalar.cmpi .ne (Scalar.extui (Scalar.cmpi .sgt (BitVec.ofNat 32 (i 0).val) 0#32)) 0#32) = 1#1
/-- The body runs its third conditional at the last point. -/
abbrev isLast (i : grid0.Coords) : Prop := k0_cond3 i = 1#1

set_option maxHeartbeats 1600000 in
/-- Whichever conditionals run, the body keeps its inputs and leaves something in the output buffer and the scratch. -/
theorem run_any (c : Dev nD) (i : grid0.Coords) (arg1 : Memref sig .tc .vmem S10000x32 .bf16) (harg1 : arg1.IsWhole) (arg2 : Memref sig .tc .vmem S32x32 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S32x8 .f32) (harg7 : arg7.IsWhole)
    (x0 : Vec F S10000x32 .bf16) (x1 : Vec F S32x32 .f32) (x2 : Vec F S32x1 .f32) (x3 : Vec F S32x1 .f32) (x4 : Vec F S32x32 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)) -∗ K ⟨⟩))
      ⊢ wp frame (wpE (defs₀ (F := F)) Variants.none c none) E (cc0__gcl_body i arg1 harg1 arg2 harg2 arg3 harg3 arg4 harg4 arg5 harg5 arg6 harg6 arg7 harg7) K := by
  by_cases h1 : isFirst i <;> by_cases h2 : isLater i <;> by_cases h3 : isLast i
  all_goals
    simp only [cc0__gcl_body_eq_skeleton]; unfold cc0__gcl_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    sl_exec (disch := first | sl_exact h1 | sl_exact h2 | sl_exact h3)
    try sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; iexists _; isplitr
      swap; iexact H5
      ipureintro; rfl
    iexists _; iexists _; isplitr
    swap; iexact HS
    ipureintro; rfl

abbrev stage0 (t : Fin cfg0.N) : Memref sig .tc .vmem S10000x32 .bf16 := win0_0.stage (cfg0.slots t 0)
abbrev stage1 (t : Fin cfg0.N) : Memref sig .tc .vmem S32x32 .f32 := win0_1.stage (cfg0.slots t 1)
abbrev stage2 (t : Fin cfg0.N) : Memref sig .tc .vmem S32x1 .f32 := win0_2.stage (cfg0.slots t 2)
abbrev stage3 (t : Fin cfg0.N) : Memref sig .tc .vmem S32x1 .f32 := win0_3.stage (cfg0.slots t 3)
abbrev stage4 (t : Fin cfg0.N) : Memref sig .tc .vmem S32x32 .f32 := win0_4.stage (cfg0.slots t 4)
abbrev stage5 (t : Fin cfg0.N) : Memref sig .tc .vmem S32x32 .f32 := win0_5.stage (cfg0.slots t 5)
abbrev scratch : Memref sig .tc .vmem S32x8 .f32 := Memref.whole cc0_scratch0

variable (m : (ℓ : Loc nD τ sig) → Buf (Elt F) ℓ) (ρ : Dev nD → PrngReg)

/-- The launch's own resources are the scratch at anything and the generator register at anything. -/
theorem launch_resources (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; try rfl

/-- Every input buffer keeps its block; what the output buffer ends at is not read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 4 t
  Φ _ := Pipeline.ΦA spec0 c
  q _ := fullShare
  owed _ := 0

/-- The output is the window whose contents are not followed. -/
def free (w : Fin cfg0.W) : Bool := w == 5

theorem dats_A (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]

/-- Every input buffer holds its block when the body starts. -/
theorem before0 (c : Dev nD) (t : Fin cfg0.N) (d) : (dats m 0 c).before 0 t d = iblk m c 0 t :=
  before0_0_of m (dats m 0 c) (dats_A m c 0) (after0 m c) t d
theorem before1 (c : Dev nD) (t : Fin cfg0.N) (d) : (dats m 0 c).before 1 t d = iblk m c 1 t :=
  before0_1_of m (dats m 0 c) (dats_A m c 1) (after1 m c) t d
theorem before2 (c : Dev nD) (t : Fin cfg0.N) (d) : (dats m 0 c).before 2 t d = iblk m c 2 t :=
  before0_2_of m (dats m 0 c) (dats_A m c 2) (after2 m c) t d
theorem before3 (c : Dev nD) (t : Fin cfg0.N) (d) : (dats m 0 c).before 3 t d = iblk m c 3 t :=
  before0_3_of m (dats m 0 c) (dats_A m c 3) (after3 m c) t d
theorem before4 (c : Dev nD) (t : Fin cfg0.N) (d) : (dats m 0 c).before 4 t d = iblk m c 4 t :=
  before0_4_of m (dats m 0 c) (dats_A m c 4) (after4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d))
    ∗ (∃ d, owns (c : Thread nD τ) (stage5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (stage0 t) fullShare ((dats m 0 c).after 0 t)
    ∗ owns (c : Thread nD τ) (stage1 t) fullShare ((dats m 0 c).after 1 t)
    ∗ owns (c : Thread nD τ) (stage2 t) fullShare ((dats m 0 c).after 2 t)
    ∗ owns (c : Thread nD τ) (stage3 t) fullShare ((dats m 0 c).after 3 t)
    ∗ owns (c : Thread nD τ) (stage4 t) fullShare ((dats m 0 c).after 4 t)
    ∗ (∃ d, owns (c : Thread nD τ) (stage5 t) fullShare d))

/-- The body meets its obligation at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, after0, after1, after2, after3, after4]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, launch_resources]
  iintro ⟨⟨HS, Hg⟩, Ho, ⟨%d0, H0⟩, ⟨%d1, H1⟩, ⟨%d2, H2⟩, ⟨%d3, H3⟩, ⟨%d4, H4⟩, H5⟩
  iapply (run_any c (grid0.coords t) _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row is the body. -/
theorem defs₀_row (t : Fin cfg0.N) :
    defs₀ (F := F) .tc cfg0.body (cfg0.bodyArgs t (cfg0.slots t)) = bodyAt0 t := by
  unfold defs₀; rw [Defs.onTc_tc]

/-- The pipeline's body obligation, the output's contents not followed. -/
theorem body_obligation (c : Dev nD) : BodyObligation (dats (F := F) m 0 c) (defs₀ (F := F)) Variants.none () Set.univ free := fun t => by
  rw [bigSep_W0, bigSep_W0, defs₀_row]
  exact triple_restated (sound_body m c t) rfl .rfl fun _ => .rfl

set_option backward.isDefEq.respectTransparency.types false in
/-- Every execution ends, with the arrays the windows only read as they were and every counter at zero. -/
theorem run : θ_run defs (onTc (τ := τ) (main (F := F))) (s₀ m ρ)
    (fun r => (Pipeline.RDat.FramePost cfg0 (fun c => (dats m 0 c).toRForget free) (V m)) r ∧ r.2.sem = fun _ => 0) :=
  Pipeline.θ_run_frame_forget (Q' := _) cfgs (dats m) (0 : Fin 1) launch0 defs₀ Variants.none free m ρ main
    (hbody := fun c => (body_obligation m c).loose) (hshare := fun c => (dats m 0 c).share_full fun _ => rfl)
    (howed := fun _ _ => rfl) (V := V m) (hmain := hmain m Variants.none) (hA := dats_A m) (hΦ := fun _ _ => rfl)

/-- Every execution ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1.arr_in c 1 rfl).trans ((dats_A m c 1).trans (V_main_arg0 m c)),
      (h.1.arr_in c 2 rfl).trans ((dats_A m c 2).trans (V_main_arg1 m c)),
      (h.1.arr_in c 3 rfl).trans ((dats_A m c 3).trans (V_main_arg2 m c)),
      ((h.1 c).2 main_arg3 (Pipeline.mem_restRefs_of main_arg3 (by decide) (by decide))).trans (V_main_arg3 m c),
      (h.1.arr_in c 4 rfl).trans ((dats_A m c 4).trans (V_main_arg4 m c)),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) (run m ρ)

end Cert.Proof.Kernel

end
-- ==== Proof.Consts.lean ====
/- The float literals the two programs and the tolerance spell, as the extended reals they denote. -/
module

public import Idealize.ShloMosaic.PureOps.Ideal

@[expose] public section

noncomputable section

namespace Cert.Proof

open Idealize.ShloMosaic

/-- The f32 one, -/
theorem ofBits_one : Ideal.ofBits .f32 0x3F800000#32 = ((1 : ℝ) : EReal) := by
  simp [Ideal.ofBits, Ideal.ieee, -EReal.coe_mul]; norm_num

/-- the bf16 one, -/
theorem ofBits_one_bf16 : Ideal.ofBits .bf16 0x3F80#16 = ((1 : ℝ) : EReal) := by
  simp [Ideal.ofBits, Ideal.ieee, -EReal.coe_mul]; norm_num

/-- the number of unselected slots, -/
theorem ofBits_49999 : Ideal.ofBits .f32 0x47434F00#32 = ((49999 : ℝ) : EReal) := by
  simp [Ideal.ofBits, Ideal.ieee, -EReal.coe_mul]; norm_num

/-- the denominators of the reference's floors, -/
theorem ofBits_1e8 : Ideal.ofBits .f32 0x4CBEBC20#32 = ((100000000 : ℝ) : EReal) := by
  simp [Ideal.ofBits, Ideal.ieee, -EReal.coe_mul]; norm_num
theorem ofBits_1e10 : Ideal.ofBits .f32 0x501502F9#32 = ((10000000000 : ℝ) : EReal) := by
  simp [Ideal.ofBits, Ideal.ieee, -EReal.coe_mul]; norm_num

/-- a million, -/
theorem ofBits_1e6 : Ideal.ofBits .f32 0x49742400#32 = ((1000000 : ℝ) : EReal) := by
  simp [Ideal.ofBits, Ideal.ieee, -EReal.coe_mul]; norm_num

/-- the two infinities, -/
theorem ofBits_bot : Ideal.ofBits .f32 0xFF800000#32 = ⊥ := by
  simp [Ideal.ofBits, Ideal.ieee]
theorem ofBits_bot_bf16 : Ideal.ofBits .bf16 0xFF80#16 = ⊥ := by
  simp [Ideal.ofBits, Ideal.ieee]
theorem ofBits_top : Ideal.ofBits .f32 0x7F800000#32 = ⊤ := by
  simp [Ideal.ofBits, Ideal.ieee]

/-- and zero. -/
theorem ofBits_zero : Ideal.ofBits .f32 0x00000000#32 = 0 := by
  simp [Ideal.ofBits, Ideal.ieee]

end Cert.Proof

end
-- ==== Proof.Inputs.lean ====
/- What the three preconditions say of the arguments: the content is zero, every strength is a real number, and every
   exponent is anything (`zero_content`), zero or one (`affine_power`), or a real number between them (`drawn_inputs`). -/
module

public import proofs.«01_k».proof.Proof.Consts
public import proofs.«01_k».proof.Proof.Gen.Pre_affine_power
public import proofs.«01_k».proof.Proof.Gen.Pre_drawn_inputs
public import proofs.«01_k».proof.Proof.Gen.Pre_zero_content
public import Idealize.ShloMosaic.Lib.Pointwise

@[expose] public section

noncomputable section

namespace Cert.Proof

open Idealize.ShloMosaic

/-- A truth value read as a bit is one only of a true statement. -/
theorem holds_of {p : Prop} [Decidable p] (h : BitVec.ofBool (decide p) = 1#1) : p := by
  by_contra hn
  rw [decide_eq_false hn] at h
  exact absurd h (by decide)

/-- A value that compares equal to the printed zero is zero. -/
theorem zero_of_cmp {x : EReal} (h : Ideal.cmp .oeq x (Ideal.ofBits .f32 0x00000000#32) = 1#1) : x = 0 :=
  (holds_of h).trans ofBits_zero

/-- A value whose magnitude is below the printed infinity is a real number. -/
theorem real_of_abs_lt {x : EReal} (h : Ideal.cmp .olt (max x (-x)) (Ideal.ofBits .f32 0x7F800000#32) = 1#1) : ∃ r : ℝ, x = r := by
  have hlt : max x (-x) < ⊤ := lt_of_lt_of_eq (holds_of h) ofBits_top
  have ht : x ≠ ⊤ := (lt_of_le_of_lt (le_max_left _ _) hlt).ne
  have hb : x ≠ ⊥ := fun hx => (lt_of_le_of_lt (le_max_right x (-x)) hlt).ne (by rw [hx, EReal.neg_bot])
  exact ⟨x.toReal, (EReal.coe_toReal ht hb).symm⟩

/-- A value at least the printed zero and at most the printed one is a real number between them. -/
theorem real_of_between {x : EReal} (h0 : Ideal.cmp .oge x (Ideal.ofBits .f32 0x00000000#32) = 1#1)
    (h1 : Ideal.cmp .ole x (Ideal.ofBits .f32 0x3F800000#32) = 1#1) : ∃ r : ℝ, x = r ∧ 0 ≤ r ∧ r ≤ 1 := by
  have h0 : (0 : EReal) ≤ x := le_of_eq_of_le ofBits_zero.symm (holds_of h0)
  have h1 : x ≤ ((1 : ℝ) : EReal) := le_of_le_of_eq (holds_of h1) ofBits_one
  have ht : x ≠ ⊤ := (lt_of_le_of_lt h1 (EReal.coe_lt_top 1)).ne
  have hb : x ≠ ⊥ := (lt_of_lt_of_le EReal.bot_lt_zero h0).ne'
  refine ⟨x.toReal, (EReal.coe_toReal ht hb).symm, ?_, ?_⟩
  · rw [← EReal.coe_toReal ht hb] at h0
    exact_mod_cast h0
  · rw [← EReal.coe_toReal ht hb] at h1
    exact_mod_cast h1

variable (x0 : Vec Ideal ⟨2, ![32, 32]⟩ .f32) (x1 x2 : Vec Ideal ⟨2, ![32, 1]⟩ .f32) (x3 x4 : Vec Ideal ⟨2, ![32, 32]⟩ .f32)
  (x5 x6 : Vec Ideal ⟨2, ![50000, 32]⟩ .f32)

/-- `zero_content`: the content is zero and the strengths are real. -/
theorem zero_content_inputs
    (h : (Pre_zero_content.fn (F := Ideal) x0 x1 x2 x3 x4 x5 x6).1 = (fun _ => 1#1)
      ∧ (Pre_zero_content.fn (F := Ideal) x0 x1 x2 x3 x4 x5 x6).2 = (fun _ => 1#1)) :
    (∀ j, x5 j = 0) ∧ ∀ j, ∃ β : ℝ, x1 j = β :=
  ⟨fun j => zero_of_cmp (congrFun h.1 j), fun j => real_of_abs_lt (congrFun h.2 j)⟩

/-- `affine_power`: the content is zero, the strengths are real, and an exponent is zero or one. -/
theorem affine_power_inputs
    (h : (Pre_affine_power.fn (F := Ideal) x0 x1 x2 x3 x4 x5 x6).1 = (fun _ => 1#1)
      ∧ (Pre_affine_power.fn (F := Ideal) x0 x1 x2 x3 x4 x5 x6).2.1 = (fun _ => 1#1)
      ∧ (Pre_affine_power.fn (F := Ideal) x0 x1 x2 x3 x4 x5 x6).2.2 = (fun _ => 1#1)) :
    (∀ j, x5 j = 0) ∧ (∀ j, ∃ β : ℝ, x1 j = β) ∧ ∀ j, ∃ g : ℝ, x2 j = g ∧ (g = 0 ∨ g = 1) := by
  obtain ⟨h5, h1, h2⟩ := h
  refine ⟨fun j => zero_of_cmp (congrFun h5 j), fun j => real_of_abs_lt (congrFun h1 j), fun j => ?_⟩
  have h : IntOp.ori (Ideal.cmp .oeq (x2 j) (Ideal.ofBits .f32 0x00000000#32)) (Ideal.cmp .oeq (x2 j) (Ideal.ofBits .f32 0x3F800000#32)) = 1#1 :=
    congrFun h2 j
  have hor : ∀ c d : BitVec 1, IntOp.ori c d = 1#1 → c = 1#1 ∨ d = 1#1 := by decide
  rcases hor _ _ h with h | h
  · exact ⟨0, zero_of_cmp h, Or.inl rfl⟩
  · exact ⟨1, (holds_of h).trans ofBits_one, Or.inr rfl⟩

/-- `drawn_inputs`: the content is zero, the strengths are real, and an exponent is a real number from zero to one. -/
theorem drawn_inputs_inputs
    (h : (Pre_drawn_inputs.fn (F := Ideal) x0 x1 x2 x3 x4 x5 x6).1 = (fun _ => 1#1)
      ∧ (Pre_drawn_inputs.fn (F := Ideal) x0 x1 x2 x3 x4 x5 x6).2.1 = (fun _ => 1#1)
      ∧ (Pre_drawn_inputs.fn (F := Ideal) x0 x1 x2 x3 x4 x5 x6).2.2 = (fun _ => 1#1)) :
    (∀ j, x5 j = 0) ∧ (∀ j, ∃ β : ℝ, x1 j = β) ∧ ∀ j, ∃ g : ℝ, x2 j = g ∧ 0 ≤ g ∧ g ≤ 1 := by
  obtain ⟨h5, h1, h2⟩ := h
  refine ⟨fun j => zero_of_cmp (congrFun h5 j), fun j => real_of_abs_lt (congrFun h1 j), fun j => ?_⟩
  have h : IntOp.andi (Ideal.cmp .oge (x2 j) (Ideal.ofBits .f32 0x00000000#32)) (Ideal.cmp .ole (x2 j) (Ideal.ofBits .f32 0x3F800000#32)) = 1#1 :=
    congrFun h2 j
  have hand : ∀ c d : BitVec 1, IntOp.andi c d = 1#1 → c = 1#1 ∧ d = 1#1 := by decide
  exact real_of_between (hand _ _ h).1 (hand _ _ h).2

end Cert.Proof

end
-- ==== Proof.KernelIdeal.Body.lean ====
module

public import proofs.«01_k».proof.Proof.Gen.KernelIdeal.Skeleton
public import proofs.«01_k».proof.Proof.Gen.KernelIdeal.Frame
public import Idealize.ShloMosaic.Lib.Pipeline.Value

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

/-! ## Reading and writing the buffers

The scratch keeps a running maximum in column 0 and a running sum in column 1 of a 32 by 8 buffer; its
other columns are never written. -/

/-- Column 0 of the scratch: the running maxima. -/
abbrev maxRect : Rect S32x8 := Rect.unit (s := S32x8) ![0, 0] S32x1.size inb_S32x8_S32x1_0_0
/-- Column 1 of the scratch: the running sums. -/
abbrev sumRect : Rect S32x8 := Rect.unit (s := S32x8) ![0, 1] S32x1.size inb_S32x8_S32x1_0_1

/-- The scratch contents `X` hold `m` in column 0 and `z` in column 1. -/
def Columns (X : Vec F S32x8 .f32) (m z : Vec F S32x1 .f32) : Prop :=
  View.ld X maxRect = m ∧ View.ld X sumRect = z

/-- The two columns have no cell in common. -/
theorem columns_disjoint : Disjoint sumRect.set maxRect.set :=
  Rect.disjoint_of_separated sumRect maxRect (1 : Fin 2) (by decide)

theorem zero2 : (![0, 0] : Fin 2 → ℕ) = fun _ => 0 := by decide

section Reads

variable {s : Shape} {e : EltTy} {sp : Space} {κ : Kind} (v : View sig κ sp s e)

/-- A load of a whole buffer reads its contents. -/
theorem read_full {off : Fin s.rank → ℕ} (h : off = fun _ => 0) (inb : ∀ a, off a + s.size a ≤ s.size a) (f : v.ty.Contents (Elt F)) :
    v.readAt (Elt F) (Rect.unit off s.size inb).toLoadRect f = v.read (Elt F) f := (View.readAt_eq_ld v f _).trans (View.ld_unit_zero h inb _)

/-- A store of a whole buffer leaves what it stored. -/
theorem read_store_full {off : Fin s.rank → ℕ} (h : off = fun _ => 0) (inb : ∀ a, off a + s.size a ≤ s.size a) (f : v.ty.Contents (Elt F))
    (w : s.Idx → Elt F e) :
    v.read (Elt F) (v.writes (Elt F) f [⟨Rect.unit off s.size inb, w⟩]) = w :=
  (View.read_writes_eq_canon v f _ fun y => ⟨_, List.mem_singleton_self _, View.mem_set_unit_zero h inb y⟩).trans
    (View.canon_unit_zero h inb w)

end Reads

section Scratch

variable {sp : Space} {κ : Kind} (v : View sig κ sp S32x8 .f32) (m z : Vec F S32x1 .f32)

/-- After storing column 0 and then column 1, column 0 reads its own store, -/
theorem readCov_max : v.readCov (Val := Elt F) [⟨sumRect, z⟩, ⟨maxRect, m⟩] maxRect.toLoadRect = m :=
  (View.readCov_cons_of_disjoint v ⟨sumRect, z⟩ [⟨maxRect, m⟩] maxRect.toLoadRect columns_disjoint).trans
    (View.readCov_cons_toLoadRect v maxRect m [])

/-- and column 1 its own. -/
theorem readCov_sum : v.readCov (Val := Elt F) [⟨sumRect, z⟩, ⟨maxRect, m⟩] sumRect.toLoadRect = z :=
  View.readCov_cons_toLoadRect _ _ _ _

/-- So the contents after the two stores hold the two columns, whatever was there before. -/
theorem columns_writes (f : v.ty.Contents (Elt F)) :
    Columns (v.read (Elt F) (v.writes (Elt F) f [⟨sumRect, z⟩, ⟨maxRect, m⟩])) m z := by
  constructor
  · funext x
    exact (View.read_writes_cons_miss v f ⟨sumRect, z⟩ [⟨maxRect, m⟩] (maxRect.emb x)
      (Finset.disjoint_right.mp columns_disjoint (maxRect.toLoadRect.idx_mem x))).trans
        (View.read_writes_cons_emb v f maxRect m [] x)
  · funext x
    exact View.read_writes_cons_emb v f sumRect z [⟨maxRect, m⟩] x

end Scratch

/-! ## The body at a point of each kind -/

/-- The body runs its first conditional at the first point. -/
abbrev isFirst (i : grid0.Coords) : Prop := (Scalar.cmpi .ne (Scalar.extui (Scalar.cmpi .eq (BitVec.ofNat 32 (i 0).val) 0#32)) 0#32) = 1#1
/-- The body runs its second conditional at every later point. -/
abbrev isLater (i : grid0.Coords) : Prop := (Scalar.cmpi .ne (Scalar.extui (Scalar.cmpi .sgt (BitVec.ofNat 32 (i 0).val) 0#32)) 0#32) = 1#1
/-- The body runs its third conditional at the last point. -/
abbrev isLast (i : grid0.Coords) : Prop := k0_cond3 i = 1#1

/-- The first point stores the block's maximum and the block's sum in the two columns, and leaves the output buffer as it was. -/
theorem run_first (c : Dev nD) (i : grid0.Coords) (arg1 : Memref sig .tc .vmem S10000x32 .bf16) (harg1 : arg1.IsWhole) (arg2 : Memref sig .tc .vmem S32x32 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S32x8 .f32) (harg7 : arg7.IsWhole)
    (h1 : isFirst i) (h2 : ¬isLater i) (h3 : ¬isLast i)
    (x0 : Vec F S10000x32 .bf16) (x1 : Vec F S32x32 .f32) (x2 : Vec F S32x1 .f32) (x3 : Vec F S32x1 .f32) (x4 : Vec F S32x32 .f32) (x5 : Vec F S32x32 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ X, ⌜Columns X (k0_pay5 x0 x1 x2) (k0_pay6 x0 x1 x2)⌝ ∗ owns (c : Thread nD τ) arg7 fullShare X)) -∗ K ⟨⟩))
      ⊢ wp frame (wpE (defs₀ (F := F)) Variants.none c none) E (cc0__gcl_body i arg1 harg1 arg2 harg2 arg3 harg3 arg4 harg4 arg5 harg5 arg6 harg6 arg7 harg7) K := by
    simp only [cc0__gcl_body_eq_skeleton]; unfold cc0__gcl_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    have e0 : View.readAt (Elt F) arg1.view (Rect.unit ![0, 0] S10000x32.size inb_S10000x32_S10000x32_0_0).toLoadRect f0 = x0 := (read_full arg1.view zero2 _ f0).trans hf0
    have e1 : View.readAt (Elt F) arg2.view (Rect.unit ![0, 0] S32x32.size inb_S32x32_S32x32_0_0).toLoadRect f1 = x1 := (read_full arg2.view zero2 _ f1).trans hf1
    have e2 : View.readAt (Elt F) arg3.view (Rect.unit ![0, 0] S32x1.size inb_S32x1_S32x1_0_0).toLoadRect f2 = x2 := (read_full arg3.view zero2 _ f2).trans hf2
    sl_exec (disch := first | sl_exact h1 | sl_exact h2 | sl_exact h3)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    iexists _; isplitr
    swap
    · iexists _; isplitr
      swap; iexact HS
      ipureintro; rfl
    ipureintro
    sl_unfold_words
    exact columns_writes _ _ _ _

/-- A later point that is not the last joins the block's maximum and sum into the two columns, and leaves the output buffer as it was. -/
theorem run_middle (c : Dev nD) (i : grid0.Coords) (arg1 : Memref sig .tc .vmem S10000x32 .bf16) (harg1 : arg1.IsWhole) (arg2 : Memref sig .tc .vmem S32x32 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S32x8 .f32) (harg7 : arg7.IsWhole)
    (h1 : ¬isFirst i) (h2 : isLater i) (h3 : ¬isLast i)
    (x0 : Vec F S10000x32 .bf16) (x1 : Vec F S32x32 .f32) (x2 : Vec F S32x1 .f32) (x3 : Vec F S32x1 .f32) (x4 : Vec F S32x32 .f32) (x5 : Vec F S32x32 .f32) (xs : Vec F S32x8 .f32) {m z : Vec F S32x1 .f32} (hx : Columns xs m z)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ X, ⌜Columns X (k0_pay7 x0 x1 x2 m) (k0_pay8 x0 x1 x2 z)⌝ ∗ owns (c : Thread nD τ) arg7 fullShare X)) -∗ K ⟨⟩))
      ⊢ wp frame (wpE (defs₀ (F := F)) Variants.none c none) E (cc0__gcl_body i arg1 harg1 arg2 harg2 arg3 harg3 arg4 harg4 arg5 harg5 arg6 harg6 arg7 harg7) K := by
    simp only [cc0__gcl_body_eq_skeleton]; unfold cc0__gcl_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    have e0 : View.readAt (Elt F) arg1.view (Rect.unit ![0, 0] S10000x32.size inb_S10000x32_S10000x32_0_0).toLoadRect f0 = x0 := (read_full arg1.view zero2 _ f0).trans hf0
    have e1 : View.readAt (Elt F) arg2.view (Rect.unit ![0, 0] S32x32.size inb_S32x32_S32x32_0_0).toLoadRect f1 = x1 := (read_full arg2.view zero2 _ f1).trans hf1
    have e2 : View.readAt (Elt F) arg3.view (Rect.unit ![0, 0] S32x1.size inb_S32x1_S32x1_0_0).toLoadRect f2 = x2 := (read_full arg3.view zero2 _ f2).trans hf2
    sl_exec (disch := first | sl_exact h1 | sl_exact h2 | sl_exact h3)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    iexists _; isplitr
    swap
    · iexists _; isplitr
      swap; iexact HS
      ipureintro; rfl
    ipureintro
    sl_unfold_words
    obtain ⟨rfl, rfl⟩ := hx
    subst hfs
    exact columns_writes _ _ _ _

/-- The last point joins its block into the two columns and stores the output those columns give. -/
theorem run_last (c : Dev nD) (i : grid0.Coords) (arg1 : Memref sig .tc .vmem S10000x32 .bf16) (harg1 : arg1.IsWhole) (arg2 : Memref sig .tc .vmem S32x32 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S32x8 .f32) (harg7 : arg7.IsWhole)
    (h1 : ¬isFirst i) (h2 : isLater i) (h3 : isLast i)
    (x0 : Vec F S10000x32 .bf16) (x1 : Vec F S32x32 .f32) (x2 : Vec F S32x1 .f32) (x3 : Vec F S32x1 .f32) (x4 : Vec F S32x32 .f32) (xs : Vec F S32x8 .f32) {m z : Vec F S32x1 .f32} (hx : Columns xs m z)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay1 x3 (k0_pay8 x0 x1 x2 z) (k0_pay7 x0 x1 x2 m) x4)
            ∗ (∃ X, ⌜Columns X (k0_pay7 x0 x1 x2 m) (k0_pay8 x0 x1 x2 z)⌝ ∗ owns (c : Thread nD τ) arg7 fullShare X)) -∗ K ⟨⟩))
      ⊢ wp frame (wpE (defs₀ (F := F)) Variants.none c none) E (cc0__gcl_body i arg1 harg1 arg2 harg2 arg3 harg3 arg4 harg4 arg5 harg5 arg6 harg6 arg7 harg7) K := by
    simp only [cc0__gcl_body_eq_skeleton]; unfold cc0__gcl_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    have e0 : View.readAt (Elt F) arg1.view (Rect.unit ![0, 0] S10000x32.size inb_S10000x32_S10000x32_0_0).toLoadRect f0 = x0 := (read_full arg1.view zero2 _ f0).trans hf0
    have e1 : View.readAt (Elt F) arg2.view (Rect.unit ![0, 0] S32x32.size inb_S32x32_S32x32_0_0).toLoadRect f1 = x1 := (read_full arg2.view zero2 _ f1).trans hf1
    have e2 : View.readAt (Elt F) arg3.view (Rect.unit ![0, 0] S32x1.size inb_S32x1_S32x1_0_0).toLoadRect f2 = x2 := (read_full arg3.view zero2 _ f2).trans hf2
    have e3 : View.readAt (Elt F) arg4.view (Rect.unit ![0, 0] S32x1.size inb_S32x1_S32x1_0_0).toLoadRect f3 = x3 := (read_full arg4.view zero2 _ f3).trans hf3
    have e4 : View.readAt (Elt F) arg5.view (Rect.unit ![0, 0] S32x32.size inb_S32x32_S32x32_0_0).toLoadRect f4 = x4 := (read_full arg5.view zero2 _ f4).trans hf4
    sl_exec (disch := first | sl_exact h1 | sl_exact h2 | sl_exact h3)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr
      swap; iexact H5
      ipureintro
      sl_unfold_words
      obtain ⟨rfl, rfl⟩ := hx
      subst hfs
      refine (read_store_full _ zero2 _ _ _).trans ?_
      rw [readCov_max, readCov_sum]
      rfl
    iexists _; isplitr
    swap
    · iexists _; isplitr
      swap; iexact HS
      ipureintro; rfl
    ipureintro
    sl_unfold_words
    obtain ⟨rfl, rfl⟩ := hx
    subst hfs
    exact columns_writes _ _ _ _

end Cert.Proof.KernelIdeal

end
-- ==== Proof.KernelIdeal.Run.lean ====
module

public import proofs.«01_k».proof.Proof.KernelIdeal.Body

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Which conditionals run at which point -/

theorem isFirst_iff : ∀ t : Fin cfg0.N, isFirst (grid0.coords t) ↔ t.val = 0 := by decide +kernel
theorem isLater_iff : ∀ t : Fin cfg0.N, isLater (grid0.coords t) ↔ t.val ≠ 0 := by decide +kernel
theorem isLast_iff : ∀ t : Fin cfg0.N, isLast (grid0.coords t) ↔ t.val = 4 := by decide +kernel

/-- Every input window is used at every point. -/
theorem live0 (t : Fin cfg0.N) : cfg0.idle 0 (grid0.coords t) = false := rfl
theorem live1 (t : Fin cfg0.N) : cfg0.idle 1 (grid0.coords t) = false := rfl
theorem live2 (t : Fin cfg0.N) : cfg0.idle 2 (grid0.coords t) = false := rfl
theorem live3 (t : Fin cfg0.N) : cfg0.idle 3 (grid0.coords t) = false := rfl
theorem live4 (t : Fin cfg0.N) : cfg0.idle 4 (grid0.coords t) = false := rfl

/-- The output window is used at the last point only, and only there is it written back. -/
theorem idle_out : ∀ t : Fin cfg0.N, t.val ≠ 4 → cfg0.idle 5 (grid0.coords t) = true := by decide +kernel
theorem noFlush_out : ∀ t : Fin cfg0.N, t.val ≠ 4 → (cfg0.win 5).flush t = false := by decide +kernel
theorem live_out : ∀ t : Fin cfg0.N, t.val = 4 → cfg0.idle 5 (grid0.coords t) = false := by decide +kernel

/-! ## The buffers the body is handed -/

abbrev stage0 (t : Fin cfg0.N) : Memref sig .tc .vmem S10000x32 .bf16 := win0_0.stage (cfg0.slots t 0)
abbrev stage1 (t : Fin cfg0.N) : Memref sig .tc .vmem S32x32 .f32 := win0_1.stage (cfg0.slots t 1)
abbrev stage2 (t : Fin cfg0.N) : Memref sig .tc .vmem S32x1 .f32 := win0_2.stage (cfg0.slots t 2)
abbrev stage3 (t : Fin cfg0.N) : Memref sig .tc .vmem S32x1 .f32 := win0_3.stage (cfg0.slots t 3)
abbrev stage4 (t : Fin cfg0.N) : Memref sig .tc .vmem S32x32 .f32 := win0_4.stage (cfg0.slots t 4)
abbrev stage5 (t : Fin cfg0.N) : Memref sig .tc .vmem S32x32 .f32 := win0_5.stage (cfg0.slots t 5)
abbrev scratch : Memref sig .tc .vmem S32x8 .f32 := Memref.whole cc0_scratch0

/-! ## What the two columns and the output hold, point by point -/

/-- The running maxima after point `n`. -/
def colMax (c : Dev nD) : (n : ℕ) → n < cfg0.N → Vec F S32x1 .f32
  | 0, h => k0_pay5 (iblk m c 0 ⟨0, h⟩) (iblk m c 1 ⟨0, h⟩) (iblk m c 2 ⟨0, h⟩)
  | n + 1, h => k0_pay7 (iblk m c 0 ⟨n + 1, h⟩) (iblk m c 1 ⟨n + 1, h⟩) (iblk m c 2 ⟨n + 1, h⟩) (colMax c n (Nat.lt_of_succ_lt h))

/-- The running sums after point `n`. -/
def colSum (c : Dev nD) : (n : ℕ) → n < cfg0.N → Vec F S32x1 .f32
  | 0, h => k0_pay6 (iblk m c 0 ⟨0, h⟩) (iblk m c 1 ⟨0, h⟩) (iblk m c 2 ⟨0, h⟩)
  | n + 1, h => k0_pay8 (iblk m c 0 ⟨n + 1, h⟩) (iblk m c 1 ⟨n + 1, h⟩) (iblk m c 2 ⟨n + 1, h⟩) (colSum c n (Nat.lt_of_succ_lt h))

/-- The output the two columns give after point `t`; the body stores it at the last point. -/
def outAt (c : Dev nD) (t : Fin cfg0.N) : Vec F S32x32 .f32 :=
  k0_pay1 (iblk m c 3 t) (colSum m c t.val t.isLt) (colMax m c t.val t.isLt) (iblk m c 4 t)

/-- The invariant before point `n`: at the start the scratch holds anything; later its two columns hold the running
    maxima and sums of the points so far. The generator register holds anything throughout. -/
def inv (c : Dev nD) : (n : ℕ) → n ≤ cfg0.N → sProp 𝕄
  | 0, _ => Pipeline.ΦA spec0 c
  | n + 1, h => iprop((∃ X, ⌜Columns X (colMax m c n h) (colSum m c n h)⌝ ∗ owns (c : Thread nD τ) scratch fullShare X) ∗ (∃ r, prngReg c r))

/-- The launch's own resources are the scratch at anything and the generator register at anything. -/
theorem launch_resources (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; try rfl

/-! ## The proof data -/

/-- Every input buffer keeps its block; the output buffer ends at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := inv m c t.val (Nat.le_of_lt_succ t.isLt)
  q _ := fullShare
  owed _ := 0

theorem dats_A (c : Dev nD) (w : Fin cfg0.W) : (dats m 0 c).A w = V m c (Pipeline.arrRef spec0 w) := by
  dsimp only [dats]

theorem dats_before (c : Dev nD) (t : Fin cfg0.N) : (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

/-- Every input buffer holds its block when the body starts, -/
theorem before0 (c : Dev nD) (t : Fin cfg0.N) (d) : (dats m 0 c).before 0 t d = iblk m c 0 t :=
  before0_0_of m (dats m 0 c) (dats_A m c 0) (after0 m c) t d
theorem before1 (c : Dev nD) (t : Fin cfg0.N) (d) : (dats m 0 c).before 1 t d = iblk m c 1 t :=
  before0_1_of m (dats m 0 c) (dats_A m c 1) (after1 m c) t d
theorem before2 (c : Dev nD) (t : Fin cfg0.N) (d) : (dats m 0 c).before 2 t d = iblk m c 2 t :=
  before0_2_of m (dats m 0 c) (dats_A m c 2) (after2 m c) t d
theorem before3 (c : Dev nD) (t : Fin cfg0.N) (d) : (dats m 0 c).before 3 t d = iblk m c 3 t :=
  before0_3_of m (dats m 0 c) (dats_A m c 3) (after3 m c) t d
theorem before4 (c : Dev nD) (t : Fin cfg0.N) (d) : (dats m 0 c).before 4 t d = iblk m c 4 t :=
  before0_4_of m (dats m 0 c) (dats_A m c 4) (after4 m c) t d

/-- and the body leaves it there. -/
theorem leaves0 (c : Dev nD) (t : Fin cfg0.N) : (dats m 0 c).leavesExact 0 t = owns (c : Thread nD τ) (stage0 t) fullShare (iblk m c 0 t) := by
  unfold Dat.leavesExact; rw [live0 t, after0]
theorem leaves1 (c : Dev nD) (t : Fin cfg0.N) : (dats m 0 c).leavesExact 1 t = owns (c : Thread nD τ) (stage1 t) fullShare (iblk m c 1 t) := by
  unfold Dat.leavesExact; rw [live1 t, after1]
theorem leaves2 (c : Dev nD) (t : Fin cfg0.N) : (dats m 0 c).leavesExact 2 t = owns (c : Thread nD τ) (stage2 t) fullShare (iblk m c 2 t) := by
  unfold Dat.leavesExact; rw [live2 t, after2]
theorem leaves3 (c : Dev nD) (t : Fin cfg0.N) : (dats m 0 c).leavesExact 3 t = owns (c : Thread nD τ) (stage3 t) fullShare (iblk m c 3 t) := by
  unfold Dat.leavesExact; rw [live3 t, after3]
theorem leaves4 (c : Dev nD) (t : Fin cfg0.N) : (dats m 0 c).leavesExact 4 t = owns (c : Thread nD τ) (stage4 t) fullShare (iblk m c 4 t) := by
  unfold Dat.leavesExact; rw [live4 t, after4]
/-- At the last point the body leaves the output in its buffer. -/
theorem leaves5 (c : Dev nD) (t : Fin cfg0.N) (h : t.val = 4) : (dats m 0 c).leavesExact 5 t = owns (c : Thread nD τ) (stage5 t) fullShare (outAt m c t) := by
  unfold Dat.leavesExact; rw [live_out t h, after5]

/-! ## The body at every point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d))
    ∗ (∃ d, owns (c : Thread nD τ) (stage5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
/-- The body meets its obligation at every point: at the first, at the last, and at those between. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = inv m c (t.val + 1) t.isLt from rfl, dats_before]
  rw [leaves0, leaves1, leaves2, leaves3, leaves4]
  obtain ⟨n, hn⟩ := t
  cases n with
  | zero =>
    rw [Dat.leavesExact_idle (dats m 0 c) 5 _ (idle_out ⟨0, hn⟩ (Nat.succ_ne_zero 3).symm) (noFlush_out ⟨0, hn⟩ (Nat.succ_ne_zero 3).symm)]
    show iprop(Pipeline.ΦA spec0 c ∗ _) ⊢ _
    rw [launch_resources]
    unfold inv
    let t : Fin cfg0.N := ⟨0, hn⟩
    iintro ⟨⟨HS, Hg⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ ((isFirst_iff t).mpr rfl) (fun h => (isLater_iff t).mp h rfl) (fun h => (Nat.succ_ne_zero 3).symm ((isLast_iff t).mp h)) (iblk m c 0 t) (iblk m c 1 t) (iblk m c 2 t) (iblk m c 3 t) (iblk m c 4 t) _ Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  | succ n =>
    let t : Fin cfg0.N := ⟨n + 1, hn⟩
    have h1 : ¬isFirst (grid0.coords t) := fun h => Nat.succ_ne_zero n ((isFirst_iff t).mp h)
    have h2 : isLater (grid0.coords t) := (isLater_iff t).mpr (Nat.succ_ne_zero n)
    unfold inv
    by_cases h : n + 1 = 4
    · rw [leaves5 m c t h]
      iintro ⟨⟨⟨%X, %hX, HS⟩, Hg⟩, Ho, ⟨%d0, H0⟩, ⟨%d1, H1⟩, ⟨%d2, H2⟩, ⟨%d3, H3⟩, ⟨%d4, H4⟩, ⟨%d5, H5⟩⟩
      iapply (run_last c (grid0.coords t) _ _ _ _ _ _ _ _ _ _ _ _ _ _ h1 h2 ((isLast_iff t).mpr h) (iblk m c 0 t) (iblk m c 1 t) (iblk m c 2 t) (iblk m c 3 t) (iblk m c 4 t) _ hX Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dats m 0 c) 5 t (idle_out t h) (noFlush_out t h)]
      iintro ⟨⟨⟨%X, %hX, HS⟩, Hg⟩, Ho, ⟨%d0, H0⟩, ⟨%d1, H1⟩, ⟨%d2, H2⟩, ⟨%d3, H3⟩, ⟨%d4, H4⟩, ⟨%d5, H5⟩⟩
      iapply (run_middle c (grid0.coords t) _ _ _ _ _ _ _ _ _ _ _ _ _ _ h1 h2 (fun h' => h ((isLast_iff t).mp h')) (iblk m c 0 t) (iblk m c 1 t) (iblk m c 2 t) (iblk m c 3 t) (iblk m c 4 t) _ _ hX Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body table's row is the body. -/
theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch's resources give the invariant before the first point, -/
theorem inv_in (c : Dev nD) : Pipeline.ΦA spec0 c ⊢ (dats m 0 c).Φ 0 := by
  rw [show (dats m 0 c).Φ 0 = inv m c 0 (Nat.zero_le _) from rfl]
  exact Idealize.SL.BI.Entails.refl _

/-- and the invariant after the last gives them back. -/
theorem inv_out (c : Dev nD) : (dats m 0 c).Φ (Fin.last cfg0.N) ⊢ Pipeline.ΦA spec0 c := by
  rw [show (dats m 0 c).Φ (Fin.last cfg0.N) = inv m c (4 + 1) (by decide) from rfl, launch_resources]
  unfold inv
  iintro ⟨⟨%X, %hX, HS⟩, Hg⟩
  isplitl [HS]
  · iexists _; iexact HS
  iexact Hg

/-! ## The run -/

set_option backward.isDefEq.respectTransparency.types false in
/-- Every execution ends, with the arrays at what the proof data say and every counter at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := dats_A m) (hin := inv_in m) (hout := inv_out m)

end Cert.Proof.KernelIdeal

end
-- ==== Proof.KernelIdeal.Out.lean ====
/- What the kernel leaves in its result, and what its blocks are: the output window is written back once, at the last
   point, and its block is the whole array, so the result is what the body stores there; the key block of point `t` is
   rows `10000 t … 10000 t + 9999` of the cast `key_bias`, and every other window's block is its whole argument. -/
module

public import proofs.«01_k».proof.Proof.KernelIdeal.Run

@[expose] public section

noncomputable section

namespace Cert.Proof.KernelIdeal

open Cert.KernelIdeal Cert.KernelIdeal.Gen
open Idealize.ShloMosaic Idealize.ShloMosaic.TcCoe Idealize.ShloMosaic.Tactic
open Idealize.SL.Sem
open Idealize.ShloMosaic.Pipeline (Dat)

variable {F : FTy → Type} [FloatOps F] [Named F]

variable (m : (ℓ : Loc nD τ sig) → Buf (Elt F) ℓ) (ρ : Dev nD → PrngReg)

/-! ## The result -/

/-- The last grid point. -/
abbrev lastPoint : Fin cfg0.N := ⟨4, by decide⟩

/-- The output window sits at the origin at every point. -/
theorem index_out : ∀ t : Fin grid0.N, win0_5.index t (0 : Fin 2) = 0 ∧ win0_5.index t (1 : Fin 2) = 0 := by decide +kernel

/-- What the last point writes back is the output, read through the window's block. -/
theorem flushed_out (c : Dev nD) (t : Fin cfg0.N) (hf : (cfg0.win 5).flush t = true) :
    (dats m 0 c).flushed 5 t = ((cfg0.win 5).blk t).view.read (Elt F) (outAt m c lastPoint) := by
  have ht : t = lastPoint := by
    have h5 : t.val < 5 := t.isLt
    have hm : t.val % 5 = 4 := (flush0_5 t).mp hf
    exact Fin.ext (by show t.val = 4; omega)
  subst ht
  show (cfg0.win 5).cut (grid0.coords lastPoint) ((dats m 0 c).after 5 lastPoint) = _
  rw [after5]
  obtain ⟨e0, e1⟩ := index_out lastPoint
  funext y
  have hy : ((cfg0.win 5).blk lastPoint).view.emb y = (cfg0.win 5).xinj (grid0.coords lastPoint) y := by
    funext a; apply Fin.ext
    match a with
    | ⟨0, _⟩ => show win0_5.index lastPoint (0 : Fin 2) * 32 + 1 * (y 0).val = (y 0).val; rw [e0]; omega
    | ⟨1, _⟩ => show win0_5.index lastPoint (1 : Fin 2) * 32 + 1 * (y 1).val = (y 1).val; rw [e1]; omega
  show outAt m c lastPoint ((cfg0.win 5).xinj (grid0.coords lastPoint) y) = outAt m c lastPoint (((cfg0.win 5).blk lastPoint).view.emb y)
  rw [hy]

/-- An index of the array lies in a point's block when each coordinate lies in the block's range. -/
theorem mem_block_out (t : Fin cfg0.N) (i : S32x32.Idx) :
    i ∈ ((cfg0.win 5).blk t).view.set ↔ ∀ a : Fin 2, win0_5.index t a * S32x32.size a ≤ (i a).val ∧ (i a).val < win0_5.index t a * S32x32.size a + S32x32.size a := by
  show i ∈ ((View.whole main_v0).slice (win0_5.rect t)).set ↔ _
  rw [View.set_slice_whole, Rect.mem_set_unit]
  exact Iff.rfl

/-- The result array after the run is what the body stores at the last point. -/
theorem result_array (c : Dev nD) : (dats m 0 c).arrAt 5 cfg0.N = outAt m c lastPoint :=
  (dats m 0 c).arrAt_eq_of_cover 5 _ (fun t hf => flushed_out m c t hf) (fun i => ⟨lastPoint, (flush0_5 lastPoint).mpr rfl, by
    obtain ⟨e0, e1⟩ := index_out lastPoint
    have h0 : (i 0).val < 32 := (i 0).isLt
    have h1 : (i 1).val < 32 := (i 1).isLt
    rw [mem_block_out]
    intro a
    match a with
    | ⟨0, _⟩ => show win0_5.index lastPoint (0 : Fin 2) * 32 ≤ (i 0).val ∧ (i 0).val < win0_5.index lastPoint (0 : Fin 2) * 32 + 32; rw [e0]; omega
    | ⟨1, _⟩ => show win0_5.index lastPoint (1 : Fin 2) * 32 ≤ (i 1).val ∧ (i 1).val < win0_5.index lastPoint (1 : Fin 2) * 32 + 32; rw [e1]; omega⟩)

/-- Every execution ends with the result at `outAt`, the arguments as they were, and every counter at zero. -/
theorem run_result : θ_run defs (onTc (τ := τ) (main (F := F))) ⟨m, fun _ => 0, ρ⟩ (fun r => (∀ c : Dev nD,
      r.2.mem ((c.tc : Thread nD τ).loc main_v0) = outAt m c lastPoint
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).1 5).trans (result_array m c),
      ((h.1 c).1 1).trans (((dats m 0 c).arrAt_in 1 rfl _).trans ((dats_A m c 1).trans (V_main_arg0 m c))),
      ((h.1 c).1 2).trans (((dats m 0 c).arrAt_in 2 rfl _).trans ((dats_A m c 2).trans (V_main_arg1 m c))),
      ((h.1 c).1 3).trans (((dats m 0 c).arrAt_in 3 rfl _).trans ((dats_A m c 3).trans (V_main_arg2 m c))),
      ((h.1 c).2 main_arg3 (Pipeline.mem_restRefs_of main_arg3 (by decide) (by decide))).trans (V_main_arg3 m c),
      ((h.1 c).1 4).trans (((dats m 0 c).arrAt_in 4 rfl _).trans ((dats_A m c 4).trans (V_main_arg4 m c))),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) (run m ρ)

/-! ## The blocks -/

/-- The array the key window reads is `key_bias` cast to bf16. -/
theorem V_keys (c : Dev nD) : V m c main_call0_v0 = (truncf .bf16 (m ((c : Thread nD τ).loc main_arg6)) bitsLt_bf16_f32 : Vec F S50000x32 .bf16) := by
  unfold V
  simp only [hostOps0, StableHlo.TRef.unary, StableHlo.TRef.toBuf, StableHlo.TRef.ofBuf, cast_eq]
  after_results_simp

/-- Where each window sits at a point. -/
theorem index_in : ∀ t : Fin grid0.N, win0_0.index t (0 : Fin 2) = t.val ∧ win0_0.index t (1 : Fin 2) = 0
    ∧ (∀ a, win0_1.index t a = 0) ∧ (∀ a, win0_2.index t a = 0) ∧ (∀ a, win0_3.index t a = 0) ∧ (∀ a, win0_4.index t a = 0) := by decide +kernel

/-- Row `10000 t + r` is a row of the table. -/
theorem row_lt (t : Fin cfg0.N) (r : Fin 10000) : 10000 * t.val + r.val < 50000 := by
  have h5 : t.val < 5 := t.isLt
  have := r.isLt
  omega

/-- The key block of point `t` at row `r`, column `d` is row `10000 t + r` of the table. -/
theorem block_keys (c : Dev nD) (t : Fin cfg0.N) (j : S10000x32.Idx) (i : S50000x32.Idx)
    (h0 : (i 0).val = 10000 * t.val + (j 0).val) (h1 : (i 1).val = (j 1).val) :
    (iblk m c 0 t : Vec F S10000x32 .bf16) j = (truncf .bf16 (m ((c : Thread nD τ).loc main_arg6)) bitsLt_bf16_f32 : Vec F S50000x32 .bf16) i := by
  obtain ⟨e0, e1, -⟩ := index_in t
  unfold iblk
  rw [View.read_apply]
  show V m c main_call0_v0 _ = _
  rw [V_keys]
  congr 1
  funext a
  apply Fin.ext
  match a with
  | ⟨0, _⟩ => show win0_0.index t (0 : Fin 2) * 10000 + 1 * (j 0).val = (i 0).val; rw [e0]; omega
  | ⟨1, _⟩ => show win0_0.index t (1 : Fin 2) * 32 + 1 * (j 1).val = (i 1).val; rw [e1]; omega

/-- The query block is the query argument, -/
theorem block_query (c : Dev nD) (t : Fin cfg0.N) : (iblk m c 1 t : Vec F S32x32 .f32) = m ((c : Thread nD τ).loc main_arg0) := by
  obtain ⟨-, -, e, -⟩ := index_in t
  funext j
  unfold iblk
  rw [View.read_apply]
  show V m c main_arg0 _ = _
  rw [V_main_arg0]
  congr 1
  funext a
  apply Fin.ext
  match a with
  | ⟨0, _⟩ => show win0_1.index t (0 : Fin 2) * 32 + 1 * (j 0).val = (j 0).val; rw [e 0]; omega
  | ⟨1, _⟩ => show win0_1.index t (1 : Fin 2) * 32 + 1 * (j 1).val = (j 1).val; rw [e 1]; omega

/-- the strength block is the strength argument, -/
theorem block_strength (c : Dev nD) (t : Fin cfg0.N) : (iblk m c 2 t : Vec F S32x1 .f32) = m ((c : Thread nD τ).loc main_arg1) := by
  obtain ⟨-, -, -, e, -⟩ := index_in t
  funext j
  unfold iblk
  rw [View.read_apply]
  show V m c main_arg1 _ = _
  rw [V_main_arg1]
  congr 1
  funext a
  apply Fin.ext
  match a with
  | ⟨0, _⟩ => show win0_2.index t (0 : Fin 2) * 32 + 1 * (j 0).val = (j 0).val; rw [e 0]; omega
  | ⟨1, _⟩ => show win0_2.index t (1 : Fin 2) * 1 + 1 * (j 1).val = (j 1).val; rw [e 1]; omega

/-- the exponent block is the exponent argument, -/
theorem block_exponent (c : Dev nD) (t : Fin cfg0.N) : (iblk m c 3 t : Vec F S32x1 .f32) = m ((c : Thread nD τ).loc main_arg2) := by
  obtain ⟨-, -, -, -, e, -⟩ := index_in t
  funext j
  unfold iblk
  rw [View.read_apply]
  show V m c main_arg2 _ = _
  rw [V_main_arg2]
  congr 1
  funext a
  apply Fin.ext
  match a with
  | ⟨0, _⟩ => show win0_3.index t (0 : Fin 2) * 32 + 1 * (j 0).val = (j 0).val; rw [e 0]; omega
  | ⟨1, _⟩ => show win0_3.index t (1 : Fin 2) * 1 + 1 * (j 1).val = (j 1).val; rw [e 1]; omega

/-- and the value block is the value argument. -/
theorem block_value (c : Dev nD) (t : Fin cfg0.N) : (iblk m c 4 t : Vec F S32x32 .f32) = m ((c : Thread nD τ).loc main_arg4) := by
  obtain ⟨-, -, -, -, -, e⟩ := index_in t
  funext j
  unfold iblk
  rw [View.read_apply]
  show V m c main_arg4 _ = _
  rw [V_main_arg4]
  congr 1
  funext a
  apply Fin.ext
  match a with
  | ⟨0, _⟩ => show win0_4.index t (0 : Fin 2) * 32 + 1 * (j 0).val = (j 0).val; rw [e 0]; omega
  | ⟨1, _⟩ => show win0_4.index t (1 : Fin 2) * 32 + 1 * (j 1).val = (j 1).val; rw [e 1]; omega

end Cert.Proof.KernelIdeal

end
-- ==== Proof.Scores.lean ====
/- One slot's score in the two programs' arithmetic over the extended reals. The reference divides the inner product by
   the product of the two floored lengths and multiplies by the strength; the kernel divides the strength by the query's
   length first, and multiplies by the reciprocal square root of the key's floored squared length. For a finite strength
   the two are the same real number, whatever the query and the key hold. -/
module

public import Idealize.ShloMosaic.PureOps.Ideal
public import Idealize.ShloMosaic.PureOps.Ideal.Laws
public import Mathlib.Analysis.SpecialFunctions.Pow.Real

@[expose] public section

noncomputable section

namespace Cert.Proof

open Idealize.ShloMosaic

/-- The floor under a vector's length, -/
abbrev eps : ℝ := 1 / 100000000
/-- and its square, the floor under a squared length and the weight of an unselected slot. -/
abbrev floor : ℝ := 1 / 10000000000000000

theorem eps_pos : 0 < eps := by norm_num [eps]

theorem sqrt_floor : Real.sqrt floor = eps := by
  rw [show floor = eps ^ 2 by norm_num [floor, eps], Real.sqrt_sq eps_pos.le]

variable {ι : Type} [Fintype ι]

/-- A finite sum of reals is a real. -/
theorem coe_sum {κ : Type} (s : Finset κ) (f : κ → ℝ) : ((∑ d ∈ s, f d : ℝ) : EReal) = ∑ d ∈ s, (f d : EReal) := by
  classical
  induction s using Finset.induction_on with
  | empty => simp
  | insert a s ha ih => rw [Finset.sum_insert ha, Finset.sum_insert ha, EReal.coe_add, ih]

/-- The greater of two reals, as an extended real. -/
theorem coe_max (a b : ℝ) : ((max a b : ℝ) : EReal) = max (a : EReal) b := EReal.coe_strictMono.monotone.map_max

/-- The quotient of two reals, the second not zero. -/
theorem div_real (x : ℝ) {y : ℝ} (hy : y ≠ 0) : Ideal.div (x : EReal) y = ((x / y : ℝ) : EReal) := by
  rw [Ideal.div_coe hy, ← EReal.coe_mul, mul_one_div]

/-- A square is not negative. -/
theorem sq_nonneg' (x : EReal) : 0 ≤ x * x := by
  induction x with
  | bot => simp
  | coe r => rw [← EReal.coe_mul]; exact_mod_cast mul_self_nonneg r
  | top => simp

/-- A vector either has real entries or has an infinite sum of squares. -/
theorem real_or_top (x : ι → EReal) : (∃ y : ι → ℝ, x = fun d => (y d : EReal)) ∨ ∑ d, x d * x d = ⊤ := by
  classical
  by_cases h : ∀ d, ∃ r : ℝ, x d = r
  · choose y hy using h
    exact .inl ⟨y, funext hy⟩
  · right
    push Not at h
    obtain ⟨d, hd⟩ := h
    have ht : x d * x d = ⊤ := by
      revert hd
      induction x d with
      | bot => intro _; simp
      | coe r => intro h; exact absurd rfl (h r)
      | top => intro _; simp
    rw [← Finset.add_sum_erase _ _ (Finset.mem_univ d), ht]
    exact EReal.top_add_of_ne_bot (ne_bot_of_le_ne_bot EReal.zero_ne_bot (Finset.sum_nonneg fun e _ => sq_nonneg' (x e)))

/-- A vector's floored length. -/
def len (x : ι → EReal) : EReal := max (Ideal.sqrt (∑ d, x d * x d)) (eps : EReal)

/-- The reference's score: strength times the cosine, each length floored. -/
def refScore (β : EReal) (q x : ι → EReal) : EReal := β * Ideal.div (∑ d, x d * q d) (len x * len q)

/-- The kernel's score: the query scaled by the strength over its length, times the key, times the reciprocal root of the
    key's floored squared length. -/
def kerScore (β : EReal) (q x : ι → EReal) : EReal :=
  (∑ d, (q d * Ideal.div β (len q)) * x d) * Ideal.rsqrt (max (∑ d, x d * x d) (floor : EReal))

/-- The floored length of a real vector. -/
def realLen (y : ι → ℝ) : ℝ := max (Real.sqrt (∑ d, y d * y d)) eps

theorem realLen_pos (y : ι → ℝ) : 0 < realLen y := lt_max_of_lt_right eps_pos

theorem sum_sq (y : ι → ℝ) : (∑ d, (y d : EReal) * (y d : EReal)) = ((∑ d, y d * y d : ℝ) : EReal) := by
  rw [coe_sum]; exact Finset.sum_congr rfl fun d _ => (EReal.coe_mul _ _).symm

theorem len_coe (y : ι → ℝ) : len (fun d => (y d : EReal)) = realLen y := by
  unfold len realLen
  rw [sum_sq, Ideal.sqrt_coe, if_neg (not_lt.mpr (Finset.sum_nonneg fun d _ => mul_self_nonneg (y d))), coe_max]

theorem len_top (x : ι → EReal) (h : ∑ d, x d * x d = ⊤) : len x = ⊤ := by
  unfold len
  rw [h]
  exact max_eq_left le_top

theorem len_pos (x : ι → EReal) : 0 < len x := lt_max_of_lt_right (by exact_mod_cast eps_pos)

theorem div_top (x : EReal) : Ideal.div x ⊤ = 0 := by
  unfold Ideal.div
  rw [if_neg EReal.top_ne_zero, EReal.inv_top, mul_zero]

/-- The kernel's reciprocal root of the floored squared length is one over the floored length. -/
theorem rsqrt_floor (y : ι → ℝ) : Ideal.rsqrt (max ((∑ d, y d * y d : ℝ) : EReal) (floor : EReal)) = ((realLen y)⁻¹ : ℝ) := by
  have hp : 0 < max (∑ d, y d * y d) floor := lt_max_of_lt_right (by norm_num [floor])
  rw [← coe_max, Ideal.rsqrt_coe, if_neg (not_lt.mpr hp.le), if_neg hp.ne', Real.sqrt_monotone.map_max, sqrt_floor]
  rfl

/-- For a finite strength the two scores are one real number. -/
theorem score_real (β : ℝ) (q x : ι → EReal) : ∃ r : ℝ, refScore β q x = r ∧ kerScore β q x = r := by
  rcases real_or_top q with ⟨q, rfl⟩ | hq
  · rcases real_or_top x with ⟨x, rfl⟩ | hx
    · refine ⟨β * ((∑ d, x d * q d) * (1 / (realLen x * realLen q))), ?_, ?_⟩
      · unfold refScore
        rw [len_coe, len_coe, ← EReal.coe_mul (realLen x), Ideal.div_coe (mul_pos (realLen_pos x) (realLen_pos q)).ne']
        simp only [← EReal.coe_mul, ← coe_sum]
      · unfold kerScore
        rw [sum_sq, rsqrt_floor, len_coe, Ideal.div_coe (realLen_pos q).ne']
        simp only [← EReal.coe_mul, ← coe_sum]
        congr 1
        rw [Finset.sum_congr rfl fun d _ => show q d * (β * (1 / realLen q)) * x d = (β * (1 / realLen q)) * (x d * q d) by ring, ← Finset.mul_sum]
        have hx := (realLen_pos x).ne'
        have hq := (realLen_pos q).ne'
        field_simp
    · refine ⟨0, ?_, ?_⟩
      · unfold refScore
        rw [len_top x hx, EReal.top_mul_of_pos (len_pos _), div_top, mul_zero, EReal.coe_zero]
      · unfold kerScore
        rw [hx, max_eq_left le_top, show Ideal.rsqrt ⊤ = 0 from rfl, mul_zero, EReal.coe_zero]
  · refine ⟨0, ?_, ?_⟩
    · unfold refScore
      rw [len_top q hq, EReal.mul_top_of_pos (len_pos _), div_top, mul_zero, EReal.coe_zero]
    · unfold kerScore
      rw [len_top q hq, div_top]
      simp

/-- That number. -/
def score (β : ℝ) (q x : ι → EReal) : ℝ := (score_real β q x).choose

theorem refScore_eq (β : ℝ) (q x : ι → EReal) : refScore β q x = score β q x := (score_real β q x).choose_spec.1
theorem kerScore_eq (β : ℝ) (q x : ι → EReal) : kerScore β q x = score β q x := (score_real β q x).choose_spec.2

end Cert.Proof

end
-- ==== Proof.Weights.lean ====
/- The weight of the selected slot as a real function of the softmax weights, in the two programs' forms, and how far
   apart they are. Away from the selected slot a sharpened weight is `tiny ^ g * (1 + u) ^ g` with `u` at most a
   millionth; the kernel takes the sum of these to first order in `u`. The two forms agree for `g = 0` and `g = 1`, and
   for `g` between them the kernel's weight is below the reference's by at most one part in 10^12. -/
module

public import proofs.«01_k».proof.Proof.Scores
public import Mathlib.Analysis.Convex.SpecificFunctions.Basic

@[expose] public section

noncomputable section

namespace Cert.Proof

/-- What is added to a selected weight before the power, and to the sum of powers, -/
abbrev tiny : ℝ := 1 / 10000000000
/-- and the ratio of an unselected slot's mask to it. -/
abbrev ratio : ℝ := 1 / 1000000

/-! ## The reference's form -/

section Reference

variable {ι : Type} [Fintype ι] [DecidableEq ι]

/-- One at the selected slot, `floor` elsewhere. -/
def mask (i j : ι) : ℝ := if j = i then 1 else floor

/-- The sum of the masked weights. -/
def selSum (w : ι → ℝ) (i : ι) : ℝ := ∑ j, w j * mask i j

/-- A slot's sharpened weight: masked, renormalised, floored, raised to the power `g`. -/
def sharp (w : ι → ℝ) (i : ι) (g : ℝ) (j : ι) : ℝ := Real.rpow (w j * mask i j / selSum w i + tiny) g

/-- The final weight of the selected slot. -/
def refWeight (w : ι → ℝ) (i : ι) (g : ℝ) : ℝ := sharp w i g i / ((∑ j, sharp w i g j) + tiny)

end Reference

/-! ## The kernel's form, from the selected slot's softmax weight `c` alone -/

/-- The sum of the masked weights. -/
def kerSel (c : ℝ) : ℝ := c + floor * (1 - c)

/-- `tiny ^ g`, as an exponential. -/
def kerConst (g : ℝ) : ℝ := Real.exp (g * -(10 * Real.log 10))

/-- The selected slot's sharpened weight, as an exponential. -/
def kerSharp (g c : ℝ) : ℝ := Real.exp (g * Real.log (c / kerSel c + tiny))

/-- The sum of the other slots' sharpened weights, to first order. -/
def kerRest (g c : ℝ) : ℝ := kerConst g * 49999 + kerConst g * g * ratio * (1 - c) / kerSel c

/-- The final weight of the selected slot. -/
def kerWeight (g c : ℝ) : ℝ := kerSharp g c / (kerRest g c + kerSharp g c + tiny)

/-! ## Comparing them -/

theorem kerConst_eq (g : ℝ) : kerConst g = Real.rpow tiny g := by
  unfold kerConst
  show _ = tiny ^ g
  rw [Real.rpow_def_of_pos (by norm_num [tiny]), mul_comm g]
  congr 2
  rw [show tiny = ((10 : ℝ) ^ 10)⁻¹ by norm_num [tiny], Real.log_inv, Real.log_pow]
  norm_num

theorem kerConst_pos (g : ℝ) : 0 < kerConst g := Real.exp_pos _

theorem kerSharp_pos (g c : ℝ) : 0 < kerSharp g c := Real.exp_pos _

theorem le_kerSel {c : ℝ} (h1 : c ≤ 1) : c ≤ kerSel c := by
  unfold kerSel
  have : 0 ≤ floor * (1 - c) := mul_nonneg (by norm_num [floor]) (by linarith)
  linarith

variable {ι : Type} [Fintype ι] [DecidableEq ι]

/-- What the comparison asks of the softmax weights: 50000 of them, not negative, summing to one, the selected one
    positive and greatest. -/
structure Selected (w : ι → ℝ) (i : ι) : Prop where
  card : Fintype.card ι = 50000
  nonneg : ∀ j, 0 ≤ w j
  sum : ∑ j, w j = 1
  pos : 0 < w i
  greatest : ∀ j, w j ≤ w i

namespace Selected

variable {w : ι → ℝ} {i : ι} (h : Selected w i)
include h

/-- The other weights sum to one minus the selected one. -/
theorem sum_rest : ∑ j ∈ Finset.univ.erase i, w j = 1 - w i := by
  have := Finset.add_sum_erase Finset.univ w (Finset.mem_univ i)
  rw [h.sum] at this
  linarith

theorem card_rest : ((Finset.univ.erase i).card : ℝ) = 49999 := by
  rw [Finset.card_erase_of_mem (Finset.mem_univ i), Finset.card_univ, h.card]
  norm_num

theorem le_one : w i ≤ 1 := by
  have : 0 ≤ ∑ j ∈ Finset.univ.erase i, w j := Finset.sum_nonneg fun j _ => h.nonneg j
  rw [h.sum_rest] at this
  linarith

theorem kerSel_pos : 0 < kerSel (w i) := h.pos.trans_le (le_kerSel h.le_one)

/-- The two sums of masked weights are one. -/
theorem selSum_eq : selSum w i = kerSel (w i) := by
  unfold selSum kerSel
  rw [← Finset.add_sum_erase _ _ (Finset.mem_univ i)]
  rw [Finset.sum_congr rfl fun j hj => show w j * mask i j = w j * floor by unfold mask; rw [if_neg (Finset.ne_of_mem_erase hj)]]
  rw [← Finset.sum_mul, h.sum_rest]
  unfold mask
  rw [if_pos rfl]
  ring

/-- The two sharpened weights of the selected slot are one. -/
theorem sharp_self (g : ℝ) : sharp w i g i = kerSharp g (w i) := by
  unfold sharp kerSharp
  rw [h.selSum_eq]
  show (w i * mask i i / kerSel (w i) + tiny) ^ g = _
  have hm : w i * mask i i = w i := by unfold mask; rw [if_pos rfl, mul_one]
  have hp : 0 < w i / kerSel (w i) + tiny := add_pos (div_pos h.pos h.kerSel_pos) (by norm_num [tiny])
  rw [hm, Real.rpow_def_of_pos hp, mul_comm g]

/-- How far an unselected slot's masked weight is above zero, in units of `tiny`. -/
def excess (w : ι → ℝ) (i j : ι) : ℝ := ratio * w j / kerSel (w i)

omit [Fintype ι] [DecidableEq ι] h in
theorem excess_nonneg (h0 : 0 ≤ w i) (hs : 0 < kerSel (w i)) {j : ι} (hj : 0 ≤ w j) : 0 ≤ excess w i j :=
  div_nonneg (mul_nonneg (by norm_num [ratio]) hj) hs.le

theorem excess_ge (j : ι) : 0 ≤ excess w i j := excess_nonneg h.pos.le h.kerSel_pos (h.nonneg j)

theorem excess_le (j : ι) : excess w i j ≤ ratio := by
  unfold excess
  rw [div_le_iff₀ h.kerSel_pos]
  exact mul_le_mul_of_nonneg_left ((h.greatest j).trans (le_kerSel h.le_one)) (by norm_num [ratio])

/-- An unselected slot's sharpened weight. -/
theorem sharp_other (g : ℝ) {j : ι} (hj : j ≠ i) : sharp w i g j = kerConst g * (1 + excess w i j) ^ g := by
  unfold sharp
  rw [h.selSum_eq, kerConst_eq]
  show (w j * mask i j / kerSel (w i) + tiny) ^ g = tiny ^ g * _
  rw [← Real.mul_rpow (by norm_num [tiny]) (by have := h.excess_ge j; linarith)]
  congr 1
  unfold mask excess
  rw [if_neg hj, show floor = tiny * ratio by norm_num [floor, tiny, ratio]]
  ring

/-- The sum of the other slots' sharpened weights, -/
theorem sum_sharp (g : ℝ) : ∑ j, sharp w i g j = ∑ j ∈ Finset.univ.erase i, kerConst g * (1 + excess w i j) ^ g + kerSharp g (w i) := by
  rw [← Finset.add_sum_erase _ _ (Finset.mem_univ i), h.sharp_self, add_comm]
  congr 1
  exact Finset.sum_congr rfl fun j hj => h.sharp_other g (Finset.ne_of_mem_erase hj)

/-- and what the kernel has for it. -/
theorem kerRest_eq (g : ℝ) : kerRest g (w i) = ∑ j ∈ Finset.univ.erase i, kerConst g * (1 + g * excess w i j) := by
  rw [← Finset.mul_sum, Finset.sum_add_distrib, Finset.sum_const, nsmul_eq_mul, h.card_rest, ← Finset.mul_sum]
  unfold excess
  rw [← Finset.sum_div, ← Finset.mul_sum, h.sum_rest]
  unfold kerRest
  ring

/-- For `g = 0` and `g = 1` the kernel's weight is the reference's. -/
theorem weight_eq {g : ℝ} (hg : g = 0 ∨ g = 1) : kerWeight g (w i) = refWeight w i g := by
  unfold kerWeight refWeight
  rw [h.sharp_self, h.sum_sharp, h.kerRest_eq]
  congr 3
  refine Finset.sum_congr rfl fun j _ => ?_
  rcases hg with rfl | rfl
  · rw [zero_mul, add_zero, Real.rpow_zero]
  · rw [one_mul, Real.rpow_one]

/-- The kernel's last denominator is positive for an exponent that is not negative. -/
theorem kerDen_pos {g : ℝ} (hg : 0 ≤ g) : 0 < kerRest g (w i) + kerSharp g (w i) + tiny := by
  have hr : 0 ≤ kerRest g (w i) := by
    rw [h.kerRest_eq]
    refine Finset.sum_nonneg fun j _ => mul_nonneg (kerConst_pos g).le ?_
    have := mul_nonneg hg (h.excess_ge j)
    linarith
  have := kerSharp_pos g (w i)
  have : (0 : ℝ) < tiny := by norm_num [tiny]
  linarith

/-- The reference's last denominator is positive, -/
theorem refDen_pos (g : ℝ) : 0 < (∑ j, sharp w i g j) + tiny := by
  rw [h.sum_sharp]
  have hs : 0 ≤ ∑ j ∈ Finset.univ.erase i, kerConst g * (1 + excess w i j) ^ g :=
    Finset.sum_nonneg fun j _ => mul_nonneg (kerConst_pos g).le (Real.rpow_nonneg (by have := h.excess_ge j; linarith) g)
  have := kerSharp_pos g (w i)
  have : (0 : ℝ) < tiny := by norm_num [tiny]
  linarith

/-- and so is its weight of the selected slot. -/
theorem refWeight_pos (g : ℝ) : 0 < refWeight w i g := by
  unfold refWeight
  refine div_pos ?_ (h.refDen_pos g)
  rw [h.sharp_self]
  exact kerSharp_pos g (w i)

end Selected

/-- Bernoulli's inequality and a converse to second order. -/
theorem bernoulli {u g : ℝ} (hu : 0 ≤ u) (h0 : 0 ≤ g) (h1 : g ≤ 1) :
    (1 + u) ^ g ≤ 1 + g * u ∧ 1 + g * u ≤ (1 + u) ^ g * (1 + u ^ 2) := by
  have hp : 0 < 1 + u := by linarith
  refine ⟨rpow_one_add_le_one_add_mul_self (by linarith) h0 h1, ?_⟩
  have hc : (1 + u) ^ (1 - g) ≤ 1 + (1 - g) * u := rpow_one_add_le_one_add_mul_self (by linarith) (by linarith) (by linarith)
  have hm : (1 + u) ^ g * (1 + u) ^ (1 - g) = 1 + u := by
    rw [← Real.rpow_add hp, show g + (1 - g) = 1 by ring, Real.rpow_one]
  have hg : 0 < (1 + u) ^ g := Real.rpow_pos_of_pos hp g
  have hk : 0 < 1 + (1 - g) * u := by have := mul_nonneg (sub_nonneg.mpr h1) hu; linarith
  have hA : 1 + u ≤ (1 + u) ^ g * (1 + (1 - g) * u) := hm.symm.le.trans (mul_le_mul_of_nonneg_left hc hg.le)
  have hB : (1 + g * u) * (1 + (1 - g) * u) ≤ (1 + u) * (1 + u ^ 2) := by
    nlinarith [mul_nonneg h0 (sq_nonneg u), mul_nonneg (sub_nonneg.mpr h1) (sq_nonneg u), mul_nonneg hu (sq_nonneg u),
      mul_nonneg (mul_nonneg h0 h0) (sq_nonneg u)]
  have hC : (1 + g * u) * (1 + (1 - g) * u) ≤ (1 + u) ^ g * (1 + u ^ 2) * (1 + (1 - g) * u) := by
    calc (1 + g * u) * (1 + (1 - g) * u) ≤ (1 + u) * (1 + u ^ 2) := hB
      _ ≤ (1 + u) ^ g * (1 + (1 - g) * u) * (1 + u ^ 2) := mul_le_mul_of_nonneg_right hA (by positivity)
      _ = _ := by ring
  exact le_of_mul_le_mul_right hC hk

/-- For `g` between zero and one the kernel's weight is at most the reference's, and below it by at most one part in
    10^12. -/
theorem Selected.weight_close {w : ι → ℝ} {i : ι} (h : Selected w i) {g : ℝ} (h0 : 0 ≤ g) (h1 : g ≤ 1) :
    refWeight w i g * (1 - 1 / 1000000 / 1000000) ≤ kerWeight g (w i) ∧ kerWeight g (w i) ≤ refWeight w i g := by
  have hC := kerConst_pos g
  have hP := kerSharp_pos g (w i)
  have htiny : (0 : ℝ) < tiny := by norm_num [tiny]
  set S := ∑ j ∈ Finset.univ.erase i, kerConst g * (1 + excess w i j) ^ g with hS
  have hS0 : 0 ≤ S := Finset.sum_nonneg fun j _ => mul_nonneg hC.le (Real.rpow_nonneg (by have := h.excess_ge j; linarith) g)
  have hlow : S ≤ kerRest g (w i) := by
    rw [h.kerRest_eq]
    exact Finset.sum_le_sum fun j _ => mul_le_mul_of_nonneg_left (bernoulli (h.excess_ge j) h0 h1).1 hC.le
  have hupp : kerRest g (w i) ≤ S * (1 + ratio ^ 2) := by
    rw [h.kerRest_eq, hS, Finset.sum_mul]
    refine Finset.sum_le_sum fun j _ => ?_
    rw [mul_assoc]
    refine mul_le_mul_of_nonneg_left ((bernoulli (h.excess_ge j) h0 h1).2.trans ?_) hC.le
    refine mul_le_mul_of_nonneg_left ?_ (Real.rpow_nonneg (by have := h.excess_ge j; linarith) g)
    have := pow_le_pow_left₀ (h.excess_ge j) (h.excess_le j) 2
    linarith
  have hr : refWeight w i g = kerSharp g (w i) / (S + kerSharp g (w i) + tiny) := by
    unfold refWeight; rw [h.sharp_self, h.sum_sharp]
  rw [hr]
  unfold kerWeight
  set T := kerRest g (w i)
  set P := kerSharp g (w i)
  have hDS : 0 < S + P + tiny := by linarith
  have hDT : 0 < T + P + tiny := by linarith
  constructor
  · rw [div_mul_eq_mul_div, div_le_div_iff₀ hDS hDT, mul_assoc]
    refine mul_le_mul_of_nonneg_left ?_ hP.le
    have hTS : T + P + tiny ≤ (S + P + tiny) * (1 + ratio ^ 2) := by
      have : 0 ≤ (P + tiny) * ratio ^ 2 := by positivity
      nlinarith
    calc (1 - 1 / 1000000 / 1000000) * (T + P + tiny) ≤ (1 - 1 / 1000000 / 1000000) * ((S + P + tiny) * (1 + ratio ^ 2)) :=
          mul_le_mul_of_nonneg_left hTS (by norm_num)
      _ = (S + P + tiny) * ((1 - 1 / 1000000 / 1000000) * (1 + ratio ^ 2)) := by ring
      _ ≤ (S + P + tiny) * 1 := mul_le_mul_of_nonneg_left (by norm_num [ratio]) hDS.le
      _ = _ := mul_one _
  · exact div_le_div_of_nonneg_left hP.le hDS (by linarith)

/-! ## The softmax weights -/

/-- The sum of the exponentials of a row of scores, -/
def total (s : Fin 50000 → ℝ) : ℝ := ∑ j, Real.exp (s j)
/-- and its softmax. -/
def soft (s : Fin 50000 → ℝ) (j : Fin 50000) : ℝ := Real.exp (s j) / total s

theorem total_pos (s : Fin 50000 → ℝ) : 0 < total s :=
  Finset.sum_pos (fun j _ => Real.exp_pos _) ⟨0, Finset.mem_univ 0⟩

/-- Equal scores have one softmax. -/
theorem soft_eq {s : Fin 50000 → ℝ} {k i : Fin 50000} (h : s k = s i) : soft s k = soft s i := by
  unfold soft
  rw [h]

/-- The softmax of a row, selected at a greatest score. -/
theorem selected_soft {s : Fin 50000 → ℝ} {i : Fin 50000} (hi : ∀ j, s j ≤ s i) : Selected (soft s) i where
  card := Fintype.card_fin _
  nonneg j := div_nonneg (Real.exp_pos _).le (total_pos s).le
  sum := by
    unfold soft
    rw [← Finset.sum_div]
    exact div_self (total_pos s).ne'
  pos := div_pos (Real.exp_pos _) (total_pos s)
  greatest j := div_le_div_of_nonneg_right (Real.exp_le_exp.mpr (hi j)) (total_pos s).le

end Cert.Proof

end
-- ==== Proof.Tangent.lean ====
/- The weight of the selected slot over the extended reals, at any exponent, in the kernel's form and in the form that
   takes every other slot's power by its tangent at weight zero. The two are equal, at the infinite exponents too. -/
module

public import proofs.«01_k».proof.Proof.Weights

@[expose] public section

noncomputable section

namespace Cert.Proof

open Idealize.ShloMosaic

/-! ## The two forms -/

/-- The kernel's constant, -/
def kerConstAt (γ : EReal) : EReal := Ideal.exp (γ * ((-(10 * Real.log 10) : ℝ) : EReal))

/-- its selected slot's sharpened weight, -/
def kerSharpAt (γ : EReal) (c : ℝ) : EReal := Ideal.exp (γ * (Real.log (c / kerSel c + tiny) : EReal))

/-- its sum of the others, -/
def kerRestAt (γ : EReal) (c : ℝ) : EReal :=
  kerConstAt γ * ((49999 : ℝ) : EReal) + Ideal.div (kerConstAt γ * γ * (ratio : EReal) * ((1 - c : ℝ) : EReal)) (kerSel c : EReal)

/-- and its weight, from the selected slot's softmax weight `c` alone. -/
def kerWeightAt (γ : EReal) (c : ℝ) : EReal := Ideal.div (kerSharpAt γ c) (kerRestAt γ c + kerSharpAt γ c + (tiny : EReal))

section Form

variable {ι : Type} [Fintype ι] [DecidableEq ι]

/-- A slot's sharpened weight: the power of the selected one, the tangent of the power elsewhere. -/
def tangentSharp (w : ι → ℝ) (i : ι) (γ : EReal) (j : ι) : EReal :=
  if j = i then Ideal.pow ((w j * mask i j / selSum w i + tiny : ℝ) : EReal) γ
  else Ideal.pow (tiny : EReal) γ * (((1 : ℝ) : EReal) + γ * ((w j * mask i j / selSum w i / tiny : ℝ) : EReal))

/-- The final weight of the selected slot. -/
def tangentWeight (w : ι → ℝ) (i : ι) (γ : EReal) : EReal :=
  Ideal.div (tangentSharp w i γ i) ((∑ j, tangentSharp w i γ j) + (tiny : EReal))

end Form

/-! ## At a real exponent the kernel's form is the real one -/

theorem kerRestAt_coe (g : ℝ) {c : ℝ} (hk : kerSel c ≠ 0) : kerRestAt g c = (kerRest g c : EReal) := by
  unfold kerRestAt kerConstAt kerRest kerConst
  simp only [← EReal.coe_mul, Ideal.exp_coe]
  rw [div_real _ hk, ← EReal.coe_add]

theorem kerWeightAt_coe (g : ℝ) {c : ℝ} (hk : kerSel c ≠ 0) (hd : kerRest g c + kerSharp g c + tiny ≠ 0) :
    kerWeightAt g c = (kerWeight g c : EReal) := by
  unfold kerWeightAt
  rw [kerRestAt_coe g hk, show kerSharpAt g c = (kerSharp g c : EReal) by unfold kerSharpAt kerSharp; rw [← EReal.coe_mul, Ideal.exp_coe],
    ← EReal.coe_add, ← EReal.coe_add, div_real _ hd]
  rfl

/-! ## The two forms agree -/

/-- A power of a positive number is an exponential, at every exponent. -/
theorem pow_eq_exp {x : ℝ} (hx : 0 < x) (γ : EReal) : Ideal.pow (x : EReal) γ = Ideal.exp (γ * (Real.log x : EReal)) := by
  induction γ with
  | coe g =>
    rw [← EReal.coe_mul, Ideal.exp_coe, Ideal.pow_coe_coe]
    refine congrArg Real.toEReal ?_
    show x ^ g = _
    rw [Real.rpow_def_of_pos hx, mul_comm]
  | top =>
    show (if x < 0 then ⊥ else if 1 < x then ⊤ else if x = 1 then 1 else 0) = _
    rw [if_neg hx.le.not_gt]
    rcases lt_trichotomy x 1 with h | h | h
    · rw [if_neg h.le.not_gt, if_neg h.ne, EReal.top_mul_coe_of_neg (Real.log_neg hx h), Ideal.exp_bot]
    · rw [if_neg h.le.not_gt, if_pos h, h, Real.log_one, EReal.coe_zero, mul_zero, ← EReal.coe_zero, Ideal.exp_coe, Real.exp_zero, EReal.coe_one]
    · rw [if_pos h, EReal.top_mul_coe_of_pos (Real.log_pos h), Ideal.exp_top]
  | bot =>
    show (if x < 0 then ⊥ else if 1 < x then 0 else if x = 1 then 1 else ⊤) = _
    rw [if_neg hx.le.not_gt]
    rcases lt_trichotomy x 1 with h | h | h
    · rw [if_neg h.le.not_gt, if_neg h.ne, EReal.bot_mul_coe_of_neg (Real.log_neg hx h), Ideal.exp_top]
    · rw [if_neg h.le.not_gt, if_pos h, h, Real.log_one, EReal.coe_zero, mul_zero, ← EReal.coe_zero, Ideal.exp_coe, Real.exp_zero, EReal.coe_one]
    · rw [if_pos h, EReal.bot_mul_coe_of_pos (Real.log_pos h), Ideal.exp_bot]

theorem log_tiny : Real.log tiny = -(10 * Real.log 10) := by
  rw [show tiny = ((10 : ℝ) ^ 10)⁻¹ by norm_num [tiny], Real.log_inv, Real.log_pow]
  norm_num

/-- A power of `tiny` is the kernel's constant. -/
theorem pow_tiny (γ : EReal) : Ideal.pow (tiny : EReal) γ = kerConstAt γ := by
  rw [pow_eq_exp (by norm_num [tiny]), log_tiny]
  rfl

/-- A sum of copies of `⊥` over a nonempty set is `⊥`. -/
theorem sum_bot {ι : Type} {s : Finset ι} (hs : s.Nonempty) : ∑ _j ∈ s, (⊥ : EReal) = ⊥ := by
  classical
  obtain ⟨j, hj⟩ := hs
  rw [← Finset.add_sum_erase s _ hj, EReal.bot_add]

namespace Selected

variable {ι : Type} [Fintype ι] [DecidableEq ι] {w : ι → ℝ} {i : ι} (h : Selected w i)
include h

theorem tangentSharp_self (γ : EReal) : tangentSharp w i γ i = kerSharpAt γ (w i) := by
  unfold tangentSharp kerSharpAt
  have hm : w i * mask i i = w i := by unfold mask; rw [if_pos rfl, mul_one]
  rw [if_pos rfl, hm, h.selSum_eq, pow_eq_exp (add_pos (div_pos h.pos h.kerSel_pos) (by norm_num [tiny]))]

theorem tangentSharp_other (γ : EReal) {j : ι} (hj : j ≠ i) :
    tangentSharp w i γ j = kerConstAt γ * (((1 : ℝ) : EReal) + γ * (excess w i j : EReal)) := by
  unfold tangentSharp
  rw [if_neg hj, pow_tiny, h.selSum_eq]
  congr 4
  unfold mask excess
  rw [if_neg hj, show floor = tiny * ratio by norm_num [floor, tiny, ratio]]
  have : (tiny : ℝ) ≠ 0 := by norm_num [tiny]
  field_simp

/-- There are other slots than the selected one. -/
theorem rest_nonempty : (Finset.univ.erase i).Nonempty := by
  rw [← Finset.card_pos, Finset.card_erase_of_mem (Finset.mem_univ i), Finset.card_univ, h.card]
  norm_num

variable (hpos : ∀ j, 0 < w j)
include hpos

/-- The kernel's sum of the other slots is the sum of their tangents. -/
theorem kerRestAt_eq (γ : EReal) :
    kerRestAt γ (w i) = ∑ j ∈ Finset.univ.erase i, kerConstAt γ * (((1 : ℝ) : EReal) + γ * (excess w i j : EReal)) := by
  have hL : -(10 * Real.log 10) < 0 := by have := Real.log_pos (show (1 : ℝ) < 10 by norm_num); linarith
  have hk := h.kerSel_pos
  have hc : 0 < 1 - w i := by
    rw [← h.sum_rest]
    exact Finset.sum_pos (fun j _ => hpos j) h.rest_nonempty
  have he : ∀ j, 0 < excess w i j := fun j => div_pos (mul_pos (by norm_num [ratio]) (hpos j)) hk
  have hr : (0 : ℝ) < ratio := by norm_num [ratio]
  induction γ with
  | coe g =>
    have hC : kerConstAt g = (kerConst g : EReal) := by unfold kerConstAt kerConst; rw [← EReal.coe_mul, Ideal.exp_coe]
    rw [kerRestAt_coe g hk.ne', h.kerRest_eq, hC, coe_sum]
    refine Finset.sum_congr rfl fun j _ => ?_
    rw [EReal.coe_mul, EReal.coe_add, EReal.coe_mul]
  | top =>
    have hC : kerConstAt ⊤ = 0 := by unfold kerConstAt; rw [EReal.top_mul_coe_of_neg hL, Ideal.exp_bot]
    unfold kerRestAt
    rw [hC, zero_mul, zero_mul, zero_mul, zero_mul, zero_add, ← EReal.coe_zero, div_real _ hk.ne', zero_div, EReal.coe_zero]
    exact (Finset.sum_eq_zero fun j _ => zero_mul _).symm
  | bot =>
    have hC : kerConstAt ⊥ = ⊤ := by unfold kerConstAt; rw [EReal.bot_mul_coe_of_neg hL, Ideal.exp_top]
    have hd : Ideal.div ⊥ (kerSel (w i) : EReal) = ⊥ := by
      unfold Ideal.div
      rw [if_neg (by exact_mod_cast hk.ne'), ← EReal.coe_inv, EReal.bot_mul_coe_of_pos (inv_pos.mpr hk)]
    unfold kerRestAt
    rw [hC, EReal.top_mul_bot, EReal.bot_mul_coe_of_pos hr, EReal.bot_mul_coe_of_pos hc, hd, EReal.add_bot]
    rw [Finset.sum_congr rfl fun j _ => show (⊤ : EReal) * (((1 : ℝ) : EReal) + ⊥ * (excess w i j : EReal)) = ⊥ by
      rw [EReal.bot_mul_coe_of_pos (he j), EReal.add_bot, EReal.top_mul_bot]]
    exact (sum_bot h.rest_nonempty).symm

/-- The two weights of the selected slot are one. -/
theorem tangent_eq (γ : EReal) : kerWeightAt γ (w i) = tangentWeight w i γ := by
  unfold kerWeightAt tangentWeight
  rw [h.kerRestAt_eq hpos, ← Finset.add_sum_erase _ _ (Finset.mem_univ i), h.tangentSharp_self,
    Finset.sum_congr rfl fun j hj => h.tangentSharp_other γ (Finset.ne_of_mem_erase hj), add_comm (kerSharpAt γ (w i))]

end Selected

/-- A softmax is positive everywhere. -/
theorem soft_pos (s : Fin 50000 → ℝ) (j : Fin 50000) : 0 < soft s j := div_pos (Real.exp_pos _) (total_pos s)

end Cert.Proof

end
-- ==== Proof.KernelIdeal.Payload.lean ====
/- The kernel body's payloads over the extended reals, read at an index: the scores of a block, their maximum and the
   sum of their exponentials along a row, and the result's weight. -/
module

public import Idealize.ShloMosaic.Lib.Pointwise
public import proofs.«01_k».proof.Proof.Gen.KernelIdeal.Skeleton
public import proofs.«01_k».proof.Proof.Consts
public import proofs.«01_k».proof.Proof.Tangent

@[expose] public section

noncomputable section

namespace Cert.Proof.KernelIdeal

open Cert.KernelIdeal Cert.KernelIdeal.Gen
open Idealize.ShloMosaic

/-! ## The named constants -/

theorem named_eps : Named.named (F := Ideal) (φ := .f32) κ "eps" 0x322BCC77#32 = (eps : EReal) :=
  IdealRules.named_const.ideal_named_scalar _ _ _ _ rfl
theorem named_floor : Named.named (F := Ideal) (φ := .f32) κ "floor" 0x24E69595#32 = (floor : EReal) :=
  IdealRules.named_const.ideal_named_scalar _ _ _ _ rfl
theorem named_tiny : Named.named (F := Ideal) (φ := .f32) κ "tiny" 0x2EDBE6FF#32 = (tiny : EReal) :=
  IdealRules.named_const.ideal_named_scalar _ _ _ _ rfl
theorem named_ratio : Named.named (F := Ideal) (φ := .f32) κ "ratio" 0x358637BD#32 = (ratio : EReal) :=
  IdealRules.named_const.ideal_named_scalar _ _ _ _ rfl
theorem named_log_tiny : Named.named (F := Ideal) (φ := .f32) κ "log_tiny" 0xC1B834F1#32 = ((-(10 * Real.log 10) : ℝ) : EReal) :=
  IdealRules.named_const.ideal_named_scalar _ _ _ _ rfl

/-! ## The scores of a block -/

/-- A block's score at query row `b`, key row `r`. -/
theorem scores_apply (v0 : Vec Ideal S10000x32 .bf16) (v2 : Vec Ideal S32x32 .f32) (v3 : Vec Ideal S32x1 .f32) (b : Fin 32) (r : Fin 10000) :
    k0_pay2 (F := Ideal) v0 v2 v3 (ix2 b r)
      = kerScore (v3 (ix2 b 0)) (fun d : Fin 32 => v2 (ix2 b d)) (fun d => v0 (ix2 r d)) := by
  unfold kerScore len
  pointwise [k0_pay2]
  rw [named_eps, named_floor]

/-! ## The two columns -/

section Columns

variable (v0 : Vec Ideal S10000x32 .bf16) (v2 : Vec Ideal S32x32 .f32) (v3 : Vec Ideal S32x1 .f32) (b : Fin 32)

/-- The maximum of a block's scores along row `b`. -/
def blockMax : EReal := Finset.univ.sup fun r : Fin 10000 => k0_pay2 (F := Ideal) v0 v2 v3 (ix2 b r)

/-- The sum of the exponentials of a block's scores along row `b`. -/
def blockSum : EReal := ∑ r : Fin 10000, Ideal.exp (k0_pay2 (F := Ideal) v0 v2 v3 (ix2 b r))

theorem max_apply : k0_pay3 (F := Ideal) v0 v2 v3 (ix2 b 0) = blockMax v0 v2 v3 b := by
  pointwise [k0_pay3]
  rw [ofBits_bot_bf16]
  rfl

theorem sum_apply : k0_pay4 (F := Ideal) v0 v2 v3 (ix2 b 0) = blockSum v0 v2 v3 b := by
  pointwise [k0_pay4]
  rfl

theorem firstMax_apply : k0_pay5 (F := Ideal) v0 v2 v3 (ix2 b 0) = blockMax v0 v2 v3 b := by
  rw [← max_apply]
  pointwise [k0_pay5]

theorem firstSum_apply : k0_pay6 (F := Ideal) v0 v2 v3 (ix2 b 0) = blockSum v0 v2 v3 b := by
  rw [← sum_apply]
  pointwise [k0_pay6]

theorem nextMax_apply (old : Vec Ideal S32x1 .f32) :
    k0_pay7 (F := Ideal) v0 v2 v3 old (ix2 b 0) = max (old (ix2 b 0)) (blockMax v0 v2 v3 b) := by
  rw [← max_apply]
  pointwise [k0_pay7]

theorem nextSum_apply (old : Vec Ideal S32x1 .f32) :
    k0_pay8 (F := Ideal) v0 v2 v3 old (ix2 b 0) = old (ix2 b 0) + blockSum v0 v2 v3 b := by
  rw [← sum_apply]
  pointwise [k0_pay8]

end Columns

/-! ## The result -/

/-- The result at row `b`, column `d`: the selected slot's weight, a function of the exponent, the row's maximum `M` and the
    row's sum `Z`, times the value. -/
theorem out_apply (gs Zs Ms : Vec Ideal S32x1 .f32) (a : Vec Ideal S32x32 .f32) (b d : Fin 32) (Z M : ℝ)
    (hZ : Zs (ix2 b 0) = (Z : EReal)) (hM : Ms (ix2 b 0) = (M : EReal)) (hZ0 : 0 < Z) (hk : 0 < kerSel (Real.exp M / Z)) :
    k0_pay1 (F := Ideal) gs Zs Ms a (ix2 b d) = kerWeightAt (gs (ix2 b 0)) (Real.exp M / Z) * a (ix2 b d) := by
  pointwise [k0_pay1]
  rw [named_floor, named_tiny, named_ratio, named_log_tiny, hZ, hM, ofBits_49999, ← EReal.coe_one, Ideal.exp_coe, div_real _ hZ0.ne']
  have hc : 0 < Real.exp M / Z := div_pos (Real.exp_pos M) hZ0
  generalize Real.exp M / Z = c at *
  have hsel : (c : EReal) + floor * ((1 : ℝ) - c) = (kerSel c : EReal) := by
    simp only [← EReal.coe_sub, ← EReal.coe_mul, ← EReal.coe_add]; rfl
  have hlog : Ideal.log ((c / kerSel c : ℝ) + tiny : EReal) = (Real.log (c / kerSel c + tiny) : EReal) := by
    rw [← EReal.coe_add, Ideal.log_coe, if_neg (not_le.mpr (add_pos (div_pos hc hk) (by norm_num [tiny])))]
  rw [hsel, div_real _ hk.ne', hlog, ← EReal.coe_sub]
  rfl

end Cert.Proof.KernelIdeal

end
-- ==== Proof.KernelIdeal.Value.lean ====
/- The kernel's result over the extended reals. After point `n` the two columns hold, for each query row, the greatest
   of the first `10000 (n + 1)` scores and the sum of their exponentials; so the result at a row is the value scaled by
   the selected slot's weight. -/
module

public import proofs.«01_k».proof.Proof.KernelIdeal.Out
public import proofs.«01_k».proof.Proof.KernelIdeal.Payload

@[expose] public section

noncomputable section

namespace Cert.Proof.KernelIdeal

open Cert.KernelIdeal Cert.KernelIdeal.Gen
open Idealize.ShloMosaic Idealize.ShloMosaic.TcCoe

variable (m : (ℓ : Loc nD τ sig) → Buf (Elt Ideal) ℓ) (c : Dev nD)

/-- The arguments the result reads: the query, -/
abbrev query : Vec Ideal S32x32 .f32 := m ((c : Thread nD τ).loc main_arg0)
/-- the strength, -/
abbrev strength : Vec Ideal S32x1 .f32 := m ((c : Thread nD τ).loc main_arg1)
/-- the exponent, -/
abbrev exponent : Vec Ideal S32x1 .f32 := m ((c : Thread nD τ).loc main_arg2)
/-- the value, -/
abbrev value : Vec Ideal S32x32 .f32 := m ((c : Thread nD τ).loc main_arg4)
/-- and the table of keys. -/
abbrev keys : Vec Ideal S50000x32 .f32 := m ((c : Thread nD τ).loc main_arg6)

/-- The scores of row `b` under the strength `β`. -/
def scores (β : ℝ) (b : Fin 32) (j : Fin 50000) : ℝ :=
  score β (fun d : Fin 32 => query m c (ix2 b d)) (fun d => keys m c (ix2 j d))

variable {b : Fin 32} {β : ℝ} (hβ : strength m c (ix2 b 0) = (β : EReal))
include hβ

/-- A block's scores are the table's, from row `10000 t` on. -/
theorem block_score (t : Fin cfg0.N) (r : Fin 10000) :
    k0_pay2 (F := Ideal) (iblk m c 0 t) (iblk m c 1 t) (iblk m c 2 t) (ix2 b r) = (scores m c β b ⟨_, row_lt t r⟩ : EReal) := by
  rw [scores_apply, block_query m c t, block_strength m c t]
  have hk : (fun d : Fin 32 => (iblk m c 0 t : Vec Ideal S10000x32 .bf16) (ix2 r d)) = fun d => keys m c (ix2 ⟨_, row_lt t r⟩ d) := by
    funext d
    exact block_keys m c t (ix2 r d) (ix2 ⟨_, row_lt t r⟩ d) rfl rfl
  rw [hk]
  exact (congrArg (fun x => kerScore x _ _) hβ).trans (kerScore_eq β _ _)

/-! ## The maxima -/

omit hβ in
/-- `x` is the greatest of the first `n` scores. -/
def GreatestOf (s : Fin 50000 → ℝ) (n : ℕ) (x : EReal) : Prop :=
  (∃ j, j.val < n ∧ x = s j) ∧ ∀ j, j.val < n → (s j : EReal) ≤ x

/-- A block's maximum is one of its scores and none of them is greater. -/
theorem block_max (t : Fin cfg0.N) :
    (∃ r : Fin 10000, blockMax (iblk m c 0 t) (iblk m c 1 t) (iblk m c 2 t) b = scores m c β b ⟨_, row_lt t r⟩)
      ∧ ∀ r : Fin 10000, (scores m c β b ⟨_, row_lt t r⟩ : EReal) ≤ blockMax (iblk m c 0 t) (iblk m c 1 t) (iblk m c 2 t) b := by
  have e : blockMax (iblk m c 0 t) (iblk m c 1 t) (iblk m c 2 t) b
      = Finset.univ.sup fun r : Fin 10000 => (scores m c β b ⟨_, row_lt t r⟩ : EReal) := by
    unfold blockMax
    exact congrArg _ (funext fun r => block_score m c hβ t r)
  rw [e]
  refine ⟨?_, fun r => Finset.le_sup (f := fun r : Fin 10000 => (scores m c β b ⟨_, row_lt t r⟩ : EReal)) (Finset.mem_univ r)⟩
  obtain ⟨r, -, hr⟩ := Finset.exists_mem_eq_sup Finset.univ ⟨0, Finset.mem_univ 0⟩
    (fun r : Fin 10000 => (scores m c β b ⟨_, row_lt t r⟩ : EReal))
  exact ⟨r, hr⟩

omit hβ in
/-- A row of block `t`, from its number in the table. -/
theorem exists_row (t : Fin cfg0.N) (j : Fin 50000) (h0 : 10000 * t.val ≤ j.val) (h1 : j.val < 10000 * (t.val + 1)) :
    ∃ r : Fin 10000, j = ⟨_, row_lt t r⟩ :=
  ⟨⟨j.val - 10000 * t.val, by omega⟩, Fin.ext (by show j.val = 10000 * t.val + (j.val - 10000 * t.val); omega)⟩

/-- The running maximum of row `b` after point `n` is the greatest of the first `10000 (n + 1)` scores. -/
theorem colMax_eq : ∀ (n : ℕ) (h : n < cfg0.N), GreatestOf (scores m c β b) (10000 * (n + 1)) (colMax m c n h (ix2 b 0))
  | 0, h => by
    obtain ⟨⟨r, hr⟩, hle⟩ := block_max m c hβ ⟨0, h⟩
    unfold colMax
    rw [firstMax_apply]
    refine ⟨⟨_, ?_, hr⟩, fun j hj => ?_⟩
    · have := r.isLt
      show 10000 * 0 + r.val < _
      omega
    · obtain ⟨r, rfl⟩ := exists_row ⟨0, h⟩ j (by show 10000 * 0 ≤ _; omega) hj
      exact hle r
  | n + 1, h => by
    obtain ⟨⟨r, hr⟩, hle⟩ := block_max m c hβ ⟨n + 1, h⟩
    obtain ⟨⟨i, hi, hx⟩, hold⟩ := colMax_eq n (Nat.lt_of_succ_lt h)
    unfold colMax
    rw [nextMax_apply]
    refine ⟨?_, fun j hj => ?_⟩
    · rcases max_choice (colMax m c n (Nat.lt_of_succ_lt h) (ix2 b 0))
        (blockMax (iblk m c 0 ⟨n + 1, h⟩) (iblk m c 1 ⟨n + 1, h⟩) (iblk m c 2 ⟨n + 1, h⟩) b) with e | e
      · exact ⟨i, by omega, e.trans hx⟩
      · refine ⟨_, ?_, e.trans hr⟩
        have := r.isLt
        show 10000 * (n + 1) + r.val < _
        omega
    · by_cases hlt : j.val < 10000 * (n + 1)
      · exact (hold j hlt).trans (le_max_left _ _)
      · obtain ⟨r, rfl⟩ := exists_row ⟨n + 1, h⟩ j (by show 10000 * (n + 1) ≤ _; omega) hj
        exact (hle r).trans (le_max_right _ _)

/-! ## The sums -/

omit hβ in
/-- The exponential of score `j`, and zero past the table's end. -/
def expAt (s : Fin 50000 → ℝ) (j : ℕ) : ℝ := if h : j < 50000 then Real.exp (s ⟨j, h⟩) else 0

/-- A block's sum of exponentials. -/
theorem block_sum (t : Fin cfg0.N) : blockSum (iblk m c 0 t) (iblk m c 1 t) (iblk m c 2 t) b
    = ((∑ r ∈ Finset.range 10000, expAt (scores m c β b) (10000 * t.val + r) : ℝ) : EReal) := by
  unfold blockSum
  rw [Finset.sum_range, coe_sum]
  refine Finset.sum_congr rfl fun r _ => ?_
  rw [block_score m c hβ t r, Ideal.exp_coe]
  unfold expAt
  rw [dif_pos (row_lt t r)]

/-- The running sum of row `b` after point `n` is the sum of the first `10000 (n + 1)` exponentials. -/
theorem colSum_eq : ∀ (n : ℕ) (h : n < cfg0.N),
    colSum m c n h (ix2 b 0) = ((∑ j ∈ Finset.range (10000 * (n + 1)), expAt (scores m c β b) j : ℝ) : EReal)
  | 0, h => by
    unfold colSum
    rw [firstSum_apply, block_sum m c hβ]
    simp only [Nat.mul_zero, Nat.zero_add, Nat.mul_one]
  | n + 1, h => by
    unfold colSum
    rw [nextSum_apply, colSum_eq n (Nat.lt_of_succ_lt h), block_sum m c hβ, ← EReal.coe_add, ← Finset.sum_range_add,
      show 10000 * (n + 1 + 1) = 10000 * (n + 1) + 10000 from Nat.mul_succ _ _]

/-! ## The result -/

/-- The result at row `b`, column `d`: for some greatest score `i` of the row, the value times the kernel's weight of `i`. -/
theorem out_eq (d : Fin 32) :
    ∃ i, (∀ j, scores m c β b j ≤ scores m c β b i)
      ∧ outAt m c lastPoint (ix2 b d) = kerWeightAt (exponent m c (ix2 b 0)) (soft (scores m c β b) i) * value m c (ix2 b d) := by
  obtain ⟨⟨i, -, hM⟩, hle⟩ := colMax_eq m c hβ 4 lastPoint.isLt
  have hi : ∀ j, scores m c β b j ≤ scores m c β b i := by
    intro j
    have := hle j j.isLt
    rw [hM] at this
    exact_mod_cast this
  have hZ : colSum m c 4 lastPoint.isLt (ix2 b 0) = (total (scores m c β b) : EReal) := by
    rw [colSum_eq m c hβ 4 lastPoint.isLt]
    refine congrArg Real.toEReal ?_
    unfold total
    rw [show 10000 * (4 + 1) = 50000 from rfl, Finset.sum_range]
    refine Finset.sum_congr rfl fun j _ => ?_
    unfold expAt
    rw [dif_pos j.isLt]
  have hs := selected_soft hi
  refine ⟨i, hi, ?_⟩
  unfold outAt
  rw [block_exponent m c lastPoint, block_value m c lastPoint]
  exact out_apply _ _ _ _ b d _ _ hZ hM (total_pos _) hs.kerSel_pos

end Cert.Proof.KernelIdeal

end
-- ==== Proof.ReferenceIdeal.Softmax.lean ====
/- The reference over the extended reals, read at an index, up to the softmax: the scores, the row maximum the softmax
   subtracts, and the softmax weights. -/
module

public import Idealize.ShloMosaic.Lib.Pointwise
public import proofs.«01_k».proof.Proof.Gen.ReferenceIdeal.Read
public import proofs.«01_k».proof.Proof.Consts
public import proofs.«01_k».proof.Proof.Weights

@[expose] public section

noncomputable section

namespace Cert.Proof.ReferenceIdeal

open Cert.ReferenceIdeal Cert.ReferenceIdeal.Gen Cert.ReferenceIdeal.Read
open Idealize.ShloMosaic

/-! ## The constants, written as quotients -/

theorem eps_apply (i : S_.Idx) : val_main_v0 (F := Ideal) i = (eps : EReal) := by
  show Ideal.div (Ideal.ofBits .f32 0x3F800000#32) (Ideal.ofBits .f32 0x4CBEBC20#32) = _
  rw [ofBits_one, ofBits_1e8, div_real _ (by norm_num)]

theorem floor_apply (i : S_.Idx) : val_main_v2 (F := Ideal) i = (floor : EReal) := by
  show Ideal.div (Ideal.div (Ideal.ofBits .f32 0x3F800000#32) (Ideal.ofBits .f32 0x4CBEBC20#32)) (Ideal.ofBits .f32 0x4CBEBC20#32) = _
  rw [ofBits_one, ofBits_1e8, div_real _ (by norm_num), div_real _ (by norm_num)]
  norm_num [floor]

theorem tiny_apply (i : S_.Idx) : val_main_v3 (F := Ideal) i = (tiny : EReal) := by
  show Ideal.div (Ideal.ofBits .f32 0x3F800000#32) (Ideal.ofBits .f32 0x501502F9#32) = _
  rw [ofBits_one, ofBits_1e10, div_real _ (by norm_num)]

variable (x0 : Vec Ideal S32x32 .f32) (x1 : Vec Ideal S32x1 .f32) (x6 : Vec Ideal S50000x32 .f32)

/-- The score of slot `j` for row `b`. -/
theorem scores_apply (b : Fin 32) (j : Fin 50000) : val_main_v26 (F := Ideal) x0 x1 x6 (ix2 b j)
    = refScore (x1 (ix2 b 0)) (fun d : Fin 32 => x0 (ix2 b d)) (fun d => x6 (ix2 j d)) := by
  unfold refScore len
  rw [← eps_apply (Shape.Idx.first h_S_)]
  pointwise [val_main_v26, val_main_v25, val_main_v24, val_main_v23, val_main_v22, val_main_v21, val_main_v20, val_main_v19,
    val_main_v18, val_main_v17, val_main_v16, val_main_v15, val_main_v14, val_main_v13, val_main_v12, val_main_v11,
    val_main_v10, val_main_v9, val_main_v8, val_main_v5, val_main_v4]
  have hz : ∀ x : EReal, Ideal.ofBits .f32 0x00000000#32 + x = x := fun x => by rw [ofBits_zero, zero_add]
  exact congrArg₂ _ rfl (congrArg₂ Ideal.div (hz _) (congrArg₂ _ (congrArg₂ max (congrArg Ideal.sqrt (hz _)) rfl)
    (congrArg₂ max (congrArg Ideal.sqrt (hz _)) rfl)))

/-- The scores of row `b` under the strength `β`. -/
def scores (β : ℝ) (b : Fin 32) (j : Fin 50000) : ℝ :=
  score β (fun d : Fin 32 => x0 (ix2 b d)) (fun d => x6 (ix2 j d))

variable {b : Fin 32} {β : ℝ} (hβ : x1 (ix2 b 0) = (β : EReal))
include hβ

theorem score_apply (j : Fin 50000) : val_main_v26 (F := Ideal) x0 x1 x6 (ix2 b j) = (scores x0 x6 β b j : EReal) := by
  rw [scores_apply, hβ]
  exact refScore_eq β _ _

/-- The maximum a row's softmax subtracts is a greatest score of the row. -/
theorem max_apply : ∃ i, (∀ j, scores x0 x6 β b j ≤ scores x0 x6 β b i)
    ∧ val_main_v27 (F := Ideal) x0 x1 x6 (ix1 b) = (scores x0 x6 β b i : EReal) := by
  have e : val_main_v27 (F := Ideal) x0 x1 x6 (ix1 b) = Finset.univ.sup fun j : Fin 50000 => (scores x0 x6 β b j : EReal) := by
    pointwise [val_main_v27]
    rw [show val_main_cst_9 (F := Ideal) (Shape.Idx.first h_S_) = ⊥ from ofBits_bot,
      show (fun j => val_main_v26 (F := Ideal) x0 x1 x6 (ix2 b j)) = fun j => (scores x0 x6 β b j : EReal) from
        funext fun j => score_apply x0 x1 x6 hβ j]
    rfl
  obtain ⟨i, -, hi⟩ := Finset.exists_mem_eq_sup Finset.univ ⟨0, Finset.mem_univ 0⟩ (fun j : Fin 50000 => (scores x0 x6 β b j : EReal))
  refine ⟨i, fun j => ?_, e.trans hi⟩
  have := Finset.le_sup (f := fun j : Fin 50000 => (scores x0 x6 β b j : EReal)) (Finset.mem_univ j)
  rw [hi] at this
  exact_mod_cast this

/-- The softmax weight of slot `j` for row `b`. -/
theorem soft_apply (j : Fin 50000) : val_main_v35 (F := Ideal) x0 x1 x6 (ix2 b j) = (soft (scores x0 x6 β b) j : EReal) := by
  obtain ⟨i, -, hM⟩ := max_apply x0 x1 x6 hβ
  have hexp : ∀ k, val_main_v31 (F := Ideal) x0 x1 x6 (ix2 b k) = (Real.exp (scores x0 x6 β b k - scores x0 x6 β b i) : EReal) := by
    intro k
    pointwise [val_main_v31, val_main_v30, val_main_v29, val_main_v28]
    rw [score_apply x0 x1 x6 hβ k, hM, ← EReal.coe_sub, Ideal.exp_coe]
  have hsum : val_main_v32 (F := Ideal) x0 x1 x6 (ix1 b) = ((total (scores x0 x6 β b) * Real.exp (-scores x0 x6 β b i) : ℝ) : EReal) := by
    pointwise [val_main_v32]
    rw [Finset.sum_congr rfl fun k _ => hexp k, ← coe_sum]
    rw [show val_main_cst_10 (F := Ideal) (Shape.Idx.first h_S_) = 0 from ofBits_zero, zero_add]
    refine congrArg Real.toEReal ?_
    unfold total
    rw [Finset.sum_mul]
    exact Finset.sum_congr rfl fun k _ => by rw [sub_eq_add_neg, Real.exp_add]
  pointwise [val_main_v35, val_main_v34, val_main_v33]
  rw [hexp, hsum, div_real _ (mul_pos (total_pos _) (Real.exp_pos _)).ne']
  refine congrArg Real.toEReal ?_
  unfold soft
  rw [sub_eq_add_neg, Real.exp_add, mul_div_mul_right _ _ (Real.exp_pos _).ne']

end Cert.Proof.ReferenceIdeal

end
-- ==== Proof.TopOne.lean ====
/- The top-1 of a row: the head of the stable sort by "greater first" is a greatest element, so the index the host's
   top-k of size one returns is the position of a greatest entry of the row. -/
module

public import Idealize.ShloMosaic.PureOps.Ideal
public import Idealize.ShloMosaic.PureOps.Ideal.Laws
public import Idealize.ShloMosaic.Lib.SortFacts

@[expose] public section

noncomputable section

namespace Cert.Proof

open Idealize.ShloMosaic

/-- The head of a list sorted greater first is at least every member of the list. -/
theorem head_greatest {ι : Type} (f : ι → EReal) (before : ι → ι → Bool) (hb : ∀ k k', before k k' = decide (f k' < f k)) :
    ∀ (l : List ι) (a : ι) (l' : List ι), stableSort before l = a :: l' → ∀ c ∈ l, f c ≤ f a
  | [], _, _, h, _, _ => by cases h
  | x :: l, a, l', h, c, hc => by
    have hx : insertBefore before x (stableSort before l) = a :: l' := h
    rcases hs : stableSort before l with _ | ⟨b, t⟩
    · have hl : l = [] := by
        have := length_stableSort before l
        rw [hs] at this
        exact List.length_eq_zero_iff.mp this.symm
      subst hl
      rw [hs] at hx
      have hax : x = a := (List.cons.inj hx).1
      rw [List.mem_singleton.mp hc, hax]
    · rw [hs] at hx
      have ih := head_greatest f before hb l b t hs
      unfold insertBefore at hx
      rw [hb] at hx
      by_cases hlt : f x < f b
      · rw [decide_eq_true hlt, if_pos rfl] at hx
        have hba : b = a := (List.cons.inj hx).1
        subst hba
        rcases List.mem_cons.mp hc with rfl | hc
        · exact hlt.le
        · exact ih c hc
      · rw [decide_eq_false hlt, if_neg Bool.false_ne_true] at hx
        have hxa : x = a := (List.cons.inj hx).1
        subst hxa
        rcases List.mem_cons.mp hc with rfl | hc
        · exact le_rfl
        · exact (ih c hc).trans (not_lt.mp hlt)

/-- So the position a greater-first sort puts first holds a greatest value. -/
theorem first_greatest {n : ℕ} (f : Fin n → EReal) (before : Fin n → Fin n → Bool) (hb : ∀ k k', before k k' = decide (f k' < f k))
    (z : Fin n) (hz : z.val = 0) (j : Fin n) : f j ≤ f (sortedFrom before z) := by
  rcases hs : sortPositions n before with _ | ⟨a, l⟩
  · have := length_sortPositions n before
    rw [hs] at this
    have hn : n = 0 := this.symm
    have := z.isLt
    omega
  · have hf : sortedFrom before z = a := by
      unfold sortedFrom
      rw [List.get_eq_getElem]
      simp only [hs, Fin.val_cast, hz, List.getElem_cons_zero]
    rw [hf]
    exact head_greatest f before hb (List.finRange n) a l hs j (List.mem_finRange j)

/-- The host's top-1 along the rows of a matrix returns, for each row, the position of a greatest entry. -/
theorem topOne_index {B n : ℕ} (x : (⟨2, ![B, n]⟩ : Shape).Idx → EReal) (h : (⟨2, ![B, n]⟩ : Shape).Slices (fun _ => 0) ⟨2, ![B, 1]⟩)
    (b : (⟨2, ![B, 1]⟩ : Shape).Idx) (row : Fin n → (⟨2, ![B, n]⟩ : Shape).Idx)
    (h0 : ∀ k, (row k 0).val = (b 0).val) (h1 : ∀ k, (row k 1).val = k.val) :
    ∃ k : Fin n, (Host.topK (s := ⟨2, ![B, n]⟩) ⟨2, ![B, 1]⟩ 1 (FloatOps.cmpfTotal (F := Ideal) (φ := .f32) .gt) x h).2 b = BitVec.ofNat 32 k.val
      ∧ ∀ j, x (row j) ≤ x (row k) := by
  let i : (⟨2, ![B, n]⟩ : Shape).Idx := fun a => ⟨0 + (b (a.cast rfl)).val, Nat.lt_of_lt_of_le (Nat.add_lt_add_left (b (a.cast rfl)).isLt 0) (h.2 a)⟩
  have hrow : ∀ k : Fin n, i.along 1 k = row k := by
    intro k
    funext a
    apply Fin.ext
    match a with
    | ⟨0, _⟩ => exact (Nat.zero_add _).trans (h0 k).symm
    | ⟨1, _⟩ => exact (h1 k).symm
  let before : Fin n → Fin n → Bool := fun k k' => Ideal.cmp .ogt (x (i.along 1 k)) (x (i.along 1 k')) == 1#1
  have hb : ∀ k k', before k k' = decide (x (row k') < x (row k)) := by
    intro k k'
    show (Ideal.cmp .ogt (x (i.along 1 k)) (x (i.along 1 k')) == 1#1) = _
    rw [hrow, hrow]
    unfold Ideal.cmp
    by_cases hlt : x (row k') < x (row k)
    · simp [hlt]
    · simp [hlt]
  refine ⟨sortedFrom before (i 1), rfl, fun j => ?_⟩
  have hb1 : (b 1).val < 1 := (b 1).isLt
  have hz : (i 1).val = 0 := by show 0 + (b 1).val = 0; omega
  exact first_greatest (fun k => x (row k)) before hb (i 1) hz j

end Cert.Proof

end
-- ==== Proof.ReferenceIdeal.Value.lean ====
/- The reference's result over the extended reals. The top-1 of a row's softmax is a position `i` of a greatest score; the
   mask is one there and `floor` elsewhere; so the sharpened weights are those of `Weights`, and with the content at zero
   the slot read back is the value scaled by the weight of `i`. -/
module

public import proofs.«01_k».proof.Proof.ReferenceIdeal.Softmax
public import proofs.«01_k».proof.Proof.TopOne

@[expose] public section

noncomputable section

namespace Cert.Proof.ReferenceIdeal

open Cert.ReferenceIdeal Cert.ReferenceIdeal.Gen Cert.ReferenceIdeal.Read
open Idealize.ShloMosaic

/-! ## The slot read back -/

/-- A slot's number, held in 32 bits, is not read as negative. -/
theorem toInt_slot (i : Fin 50000) : (BitVec.ofNat 32 i.val).toInt = (i.val : Int) := by
  have hlt : i.val < 50000 := i.isLt
  have hn : (BitVec.ofNat 32 i.val).toNat = i.val := by
    rw [BitVec.toNat_ofNat]
    omega
  rw [BitVec.toInt_eq_toNat_of_lt (by rw [hn]; omega), hn]

/-- The gather reads, for row `b` and column `d`, the table's entry at the slot its index names. -/
theorem gather_apply (x : Vec Ideal S32x50000x32 .f32) (idx : IVec S32x1x1 32) (b d : Fin 32) (i : Fin 50000)
    (hi : idx (ix3 b 0 0) = BitVec.ofNat 32 i.val) :
    Host.gather gather_S32x50000x32_S32x1x1_S32x1x32_2_1_0_0_1_2_1132 x idx (ix3 b 0 d) = x (ix3 b i d) := by
  have hlt : i.val < 50000 := i.isLt
  have hnat : (BitVec.ofNat 32 i.val).toInt.toNat = i.val := by
    rw [toInt_slot, Int.toNat_natCast]
  refine congrArg x (funext fun a => Fin.ext ?_)
  match a with
  | ⟨0, _⟩ =>
    show 0 + b.val + 0 = b.val
    omega
  | ⟨1, _⟩ =>
    have hs : gather_S32x50000x32_S32x1x1_S32x1x32_2_1_0_0_1_2_1132.siIdx (ix3 b 0 d) ⟨0, by decide⟩ = ix3 b 0 0 := by
      funext a
      match a with
      | ⟨0, _⟩ => rfl
      | ⟨1, _⟩ => rfl
      | ⟨2, _⟩ => rfl
    show min (idx (gather_S32x50000x32_S32x1x1_S32x1x32_2_1_0_0_1_2_1132.siIdx (ix3 b 0 d) ⟨0, _⟩)).toInt.toNat (50000 - 1) + 0 + 0 = i.val
    rw [hs, hi, hnat]
    omega
  | ⟨2, _⟩ =>
    show 0 + 0 + d.val = d.val
    omega

variable (x0 : Vec Ideal S32x32 .f32) (x1 : Vec Ideal S32x1 .f32) (x2 : Vec Ideal S32x1 .f32) (x4 : Vec Ideal S32x32 .f32)
  (x5 : Vec Ideal S50000x32 .f32) (x6 : Vec Ideal S50000x32 .f32)
variable {b : Fin 32} {β : ℝ} (hβ : x1 (ix2 b 0) = (β : EReal))

/-- The index the gather is given is the selected slot's: it is not negative, so the fix-up of negative indices leaves it. -/
theorem index_apply {i : Fin 50000} (hi : val_main_indices (F := Ideal) x0 x1 x6 (ix2 b 0) = BitVec.ofNat 32 i.val) :
    val_main_call0_v4 (F := Ideal) x0 x1 x6 (ix3 b 0 0) = BitVec.ofNat 32 i.val := by
  have hlt : i.val < 50000 := i.isLt
  have hv : val_main_v64 (F := Ideal) x0 x1 x6 (ix3 b 0 0) = BitVec.ofNat 32 i.val := by
    pointwise [val_main_v64]
    exact hi
  rw [val_main_call0_v4_apply, val_main_call0_v1_apply, hv, val_main_call0_v0_apply, val_main_call0_c_apply]
  have hc : IntOp.cmpi .slt (BitVec.ofNat 32 i.val) 0#32 = 0#1 := by
    show BitVec.ofBool ((BitVec.ofNat 32 i.val).slt 0#32) = 0#1
    rw [BitVec.slt_eq_decide, toInt_slot, BitVec.toInt_zero, decide_eq_false (by omega)]
    rfl
  rw [hc]
  rfl

section Row

include hβ

/-- The index returned for row `b` is that of a greatest score. -/
theorem top_apply : ∃ i : Fin 50000, (∀ j, scores x0 x6 β b j ≤ scores x0 x6 β b i)
    ∧ val_main_indices (F := Ideal) x0 x1 x6 (ix2 b 0) = BitVec.ofNat 32 i.val := by
  obtain ⟨i, hi, hle⟩ := topOne_index (B := 32) (n := 50000) (val_main_v35 (F := Ideal) x0 x1 x6) sliceFits_S32x50000_S32x1 (ix2 b 0)
    (fun j => ix2 b j) (fun _ => rfl) (fun _ => rfl)
  refine ⟨i, fun j => ?_, hi⟩
  have h : (soft (scores x0 x6 β b) j : EReal) ≤ soft (scores x0 x6 β b) i := by
    rw [← soft_apply x0 x1 x6 hβ, ← soft_apply x0 x1 x6 hβ]
    exact hle j
  have h : soft (scores x0 x6 β b) j ≤ soft (scores x0 x6 β b) i := by exact_mod_cast h
  exact Real.exp_le_exp.mp ((div_le_div_iff_of_pos_right (total_pos _)).mp h)

variable {i : Fin 50000} (hi : ∀ j, scores x0 x6 β b j ≤ scores x0 x6 β b i)
  (hx : val_main_indices (F := Ideal) x0 x1 x6 (ix2 b 0) = BitVec.ofNat 32 i.val)
include hi hx

omit hβ hi in
/-- Whether a slot is the selected one. -/
theorem best_apply (j : Fin 50000) : val_main_v38 (F := Ideal) x0 x1 x6 (ix2 b j) = BitVec.ofBool (decide (j = i)) := by
  have hj : j.val < 50000 := j.isLt
  have hi : i.val < 50000 := i.isLt
  have h37 : val_main_v37 (F := Ideal) x0 x1 x6 (ix2 b j) = BitVec.ofNat 32 i.val := by
    pointwise [val_main_v37]
    exact hx
  rw [val_main_v38_apply, h37, val_main_v36_apply]
  show BitVec.ofBool (BitVec.ofNat 32 j.val == BitVec.ofNat 32 i.val) = _
  congr 1
  rw [Bool.eq_iff_iff, beq_iff_eq, decide_eq_true_iff]
  refine ⟨fun h => Fin.ext ?_, fun h => by rw [h]⟩
  have := congrArg BitVec.toNat h
  rw [BitVec.toNat_ofNat, BitVec.toNat_ofNat] at this
  omega

omit hβ hi in
/-- The mask is one at the selected slot and `floor` elsewhere. -/
theorem mask_apply (j : Fin 50000) : val_main_v41 (F := Ideal) x0 x1 x6 (ix2 b j) = (mask i j : EReal) := by
  have h1 : val_main_v39 (F := Ideal) (ix2 b j) = ((1 : ℝ) : EReal) := by
    rw [val_main_v39_apply]; exact ofBits_one
  have h2 : val_main_v40 (F := Ideal) (ix2 b j) = (floor : EReal) := by
    rw [val_main_v40_apply]; exact floor_apply _
  rw [val_main_v41_apply, best_apply x0 x1 x6 hx, h1, h2]
  unfold mask
  by_cases h : j = i
  · rw [if_pos h, decide_eq_true h]; rfl
  · rw [if_neg h, decide_eq_false h]; rfl

/-- A slot's masked weight, -/
theorem masked_apply (j : Fin 50000) :
    val_main_v42 (F := Ideal) x0 x1 x6 (ix2 b j) = ((soft (scores x0 x6 β b) j * mask i j : ℝ) : EReal) := by
  rw [val_main_v42_apply, soft_apply x0 x1 x6 hβ, mask_apply x0 x1 x6 hx, EReal.coe_mul]
  rfl

/-- their sum, -/
theorem selSum_apply : val_main_v43 (F := Ideal) x0 x1 x6 (ix1 b) = (selSum (soft (scores x0 x6 β b)) i : EReal) := by
  pointwise [val_main_v43]
  rw [show val_main_cst_12 (F := Ideal) (Shape.Idx.first h_S_) = 0 from ofBits_zero, zero_add,
    Finset.sum_congr rfl fun j _ => masked_apply x0 x1 x6 hβ hi hx j, ← coe_sum]
  rfl

variable {g : ℝ} (hg : x2 (ix2 b 0) = (g : EReal))
include hg

/-- the sharpened weight, -/
theorem sharp_apply (j : Fin 50000) :
    val_main_v50 (F := Ideal) x0 x1 x2 x6 (ix2 b j) = (sharp (soft (scores x0 x6 β b)) i g j : EReal) := by
  have hs := selected_soft hi
  pointwise [val_main_v50, val_main_v49, val_main_v48, val_main_v47, val_main_v46, val_main_v45, val_main_v44]
  rw [masked_apply x0 x1 x6 hβ hi hx, selSum_apply x0 x1 x6 hβ hi hx, hs.selSum_eq, div_real _ hs.kerSel_pos.ne', tiny_apply, hg,
    ← EReal.coe_add, Ideal.pow_coe_coe, ← hs.selSum_eq]
  rfl

/-- and the selected slot's final weight. -/
theorem weight_apply : val_main_v56 (F := Ideal) x0 x1 x2 x6 (ix2 b i) = (refWeight (soft (scores x0 x6 β b)) i g : EReal) := by
  have hsum : val_main_v51 (F := Ideal) x0 x1 x2 x6 (ix1 b) = ((∑ j, sharp (soft (scores x0 x6 β b)) i g j : ℝ) : EReal) := by
    pointwise [val_main_v51]
    rw [show val_main_cst_13 (F := Ideal) (Shape.Idx.first h_S_) = 0 from ofBits_zero, zero_add,
      Finset.sum_congr rfl fun j _ => sharp_apply x0 x1 x2 x6 hβ hi hx hg j, ← coe_sum]
  have hd : (∑ j, sharp (soft (scores x0 x6 β b)) i g j) + tiny ≠ 0 := (selected_soft hi).refDen_pos g |>.ne'
  pointwise [val_main_v56, val_main_v55, val_main_v54, val_main_v53, val_main_v52]
  rw [sharp_apply x0 x1 x2 x6 hβ hi hx hg, hsum, tiny_apply, ← EReal.coe_add, div_real _ hd]
  rfl

end Row

include hβ in
/-- The result at row `b`, column `d`, of a content that is zero: for some greatest score `i` of the row, the value times
    the reference's weight of `i`. -/
theorem out_eq {g : ℝ} (hg : x2 (ix2 b 0) = (g : EReal)) (hx5 : ∀ j, x5 j = 0) (d : Fin 32) :
    ∃ i, (∀ j, scores x0 x6 β b j ≤ scores x0 x6 β b i)
      ∧ val_main_v66 (F := Ideal) x0 x1 x2 x4 x5 x6 (ix2 b d) = (refWeight (soft (scores x0 x6 β b)) i g : EReal) * x4 (ix2 b d) := by
  obtain ⟨i, hi, hx⟩ := top_apply x0 x1 x6 hβ
  refine ⟨i, hi, ?_⟩
  rw [← weight_apply x0 x1 x2 x6 hβ hi hx hg]
  pointwise [val_main_v66, val_main_v65]
  rw [gather_apply _ _ b d i (index_apply x0 x1 x6 hx)]
  pointwise [val_main_v63, val_main_v62, val_main_v61, val_main_v60, val_main_v59, val_main_v58, val_main_v57, val_main_v7, val_main_v6]
  rw [hx5, sub_zero, zero_add]

end Cert.Proof.ReferenceIdeal

end
-- ==== Proof.FirstOrderIdeal.Value.lean ====
/- The result of the reference that takes every power but the best slot's to first order, over the extended reals. Up to
   the power it is the reference: those stages are the same functions, and what `ReferenceIdeal` proves of them is used
   here. -/
module

public import proofs.«01_k».proof.Proof.ReferenceIdeal.Value
public import proofs.«01_k».proof.Proof.Tangent
public import proofs.«01_k».proof.Proof.Gen.FirstOrderIdeal.Read

@[expose] public section

noncomputable section

namespace Cert.Proof.FirstOrderIdeal

open Cert.FirstOrderIdeal Cert.FirstOrderIdeal.Gen Cert.FirstOrderIdeal.Read
open Idealize.ShloMosaic

variable (x0 : Vec Ideal S32x32 .f32) (x1 : Vec Ideal S32x1 .f32) (x2 : Vec Ideal S32x1 .f32) (x4 : Vec Ideal S32x32 .f32)
  (x5 : Vec Ideal S50000x32 .f32) (x6 : Vec Ideal S50000x32 .f32)

/-! ## The stages shared with the reference -/

/-- The best slot's index, -/
theorem indices_eq : val_main_indices (F := Ideal) x0 x1 x6 = Cert.ReferenceIdeal.Read.val_main_indices (F := Ideal) x0 x1 x6 := rfl
/-- whether a slot is it, -/
theorem best_eq : val_main_v38 (F := Ideal) x0 x1 x6 = Cert.ReferenceIdeal.Read.val_main_v38 (F := Ideal) x0 x1 x6 := rfl
/-- the masked weights, -/
theorem masked_eq : val_main_v42 (F := Ideal) x0 x1 x6 = Cert.ReferenceIdeal.Read.val_main_v42 (F := Ideal) x0 x1 x6 := rfl
/-- their sum, -/
theorem selSum_eq : val_main_v43 (F := Ideal) x0 x1 x6 = Cert.ReferenceIdeal.Read.val_main_v43 (F := Ideal) x0 x1 x6 := rfl
/-- and the index the gather is given. -/
theorem index_eq : val_main_call0_v4 (F := Ideal) x0 x1 x6 = Cert.ReferenceIdeal.Read.val_main_call0_v4 (F := Ideal) x0 x1 x6 := rfl

/-- The added constant. -/
theorem tiny_apply (i : S_.Idx) : val_main_v3 (F := Ideal) i = (tiny : EReal) := ReferenceIdeal.tiny_apply i

section Row

variable {b : Fin 32} {β : ℝ} (hβ : x1 (ix2 b 0) = (β : EReal))
variable {i : Fin 50000} (hi : ∀ j, ReferenceIdeal.scores x0 x6 β b j ≤ ReferenceIdeal.scores x0 x6 β b i)
  (hx : val_main_indices (F := Ideal) x0 x1 x6 (ix2 b 0) = BitVec.ofNat 32 i.val)
include hβ hi hx

/-- A slot's renormalised weight, -/
theorem renormed_apply (j : Fin 50000) : val_main_v46 (F := Ideal) x0 x1 x6 (ix2 b j)
    = ((soft (ReferenceIdeal.scores x0 x6 β b) j * mask i j / selSum (soft (ReferenceIdeal.scores x0 x6 β b)) i : ℝ) : EReal) := by
  have hs := selected_soft hi
  pointwise [val_main_v46, val_main_v45, val_main_v44]
  rw [masked_eq, selSum_eq, ReferenceIdeal.masked_apply x0 x1 x6 hβ hi hx, ReferenceIdeal.selSum_apply x0 x1 x6 hβ hi hx,
    div_real _ (by rw [hs.selSum_eq]; exact hs.kerSel_pos.ne')]

/-- its sharpened weight, -/
theorem sharp_apply (j : Fin 50000) : val_main_v61 (F := Ideal) x0 x1 x2 x6 (ix2 b j)
    = tangentSharp (soft (ReferenceIdeal.scores x0 x6 β b)) i (x2 (ix2 b 0)) j := by
  have hp : val_main_v50 (F := Ideal) x0 x1 x2 x6 (ix2 b j) = Ideal.pow ((soft (ReferenceIdeal.scores x0 x6 β b) j * mask i j
      / selSum (soft (ReferenceIdeal.scores x0 x6 β b)) i + tiny : ℝ) : EReal) (x2 (ix2 b 0)) := by
    pointwise [val_main_v50, val_main_v49, val_main_v48, val_main_v47]
    rw [renormed_apply x0 x1 x6 hβ hi hx, tiny_apply, ← EReal.coe_add]
  have ht : val_main_v60 (F := Ideal) x0 x1 x2 x6 (ix2 b j) = Ideal.pow (tiny : EReal) (x2 (ix2 b 0))
      * (((1 : ℝ) : EReal) + x2 (ix2 b 0) * ((soft (ReferenceIdeal.scores x0 x6 β b) j * mask i j
        / selSum (soft (ReferenceIdeal.scores x0 x6 β b)) i / tiny : ℝ) : EReal)) := by
    pointwise [val_main_v60, val_main_v59, val_main_v58, val_main_v57, val_main_v56, val_main_v55, val_main_v54, val_main_v53,
      val_main_v52, val_main_v51]
    rw [renormed_apply x0 x1 x6 hβ hi hx, tiny_apply, div_real _ (by norm_num [tiny]),
      show val_main_cst_13 (F := Ideal) ix0 = ((1 : ℝ) : EReal) from ofBits_one]
  rw [val_main_v61_apply, hp, ht, best_eq, ReferenceIdeal.best_apply x0 x1 x6 hx]
  unfold tangentSharp
  by_cases h : j = i
  · rw [if_pos h, decide_eq_true h]; rfl
  · rw [if_neg h, decide_eq_false h]; rfl

/-- and the selected slot's final weight. -/
theorem weight_apply : val_main_v67 (F := Ideal) x0 x1 x2 x6 (ix2 b i)
    = tangentWeight (soft (ReferenceIdeal.scores x0 x6 β b)) i (x2 (ix2 b 0)) := by
  have hsum : val_main_v62 (F := Ideal) x0 x1 x2 x6 (ix1 b)
      = ∑ j, tangentSharp (soft (ReferenceIdeal.scores x0 x6 β b)) i (x2 (ix2 b 0)) j := by
    pointwise [val_main_v62]
    rw [show val_main_cst_14 (F := Ideal) (Shape.Idx.first h_S_) = 0 from ofBits_zero, zero_add,
      Finset.sum_congr rfl fun j _ => sharp_apply x0 x1 x2 x6 hβ hi hx j]
  pointwise [val_main_v67, val_main_v66, val_main_v65, val_main_v64, val_main_v63]
  rw [sharp_apply x0 x1 x2 x6 hβ hi hx, hsum, tiny_apply]
  rfl

end Row

/-- The result at row `b`, column `d`, of a content that is zero: for some greatest score `i` of the row, the value times
    the weight of `i`. -/
theorem out_eq {b : Fin 32} {β : ℝ} (hβ : x1 (ix2 b 0) = (β : EReal)) (hx5 : ∀ j, x5 j = 0) (d : Fin 32) :
    ∃ i, (∀ j, ReferenceIdeal.scores x0 x6 β b j ≤ ReferenceIdeal.scores x0 x6 β b i)
      ∧ val_main_v77 (F := Ideal) x0 x1 x2 x4 x5 x6 (ix2 b d)
        = tangentWeight (soft (ReferenceIdeal.scores x0 x6 β b)) i (x2 (ix2 b 0)) * x4 (ix2 b d) := by
  obtain ⟨i, hi, hx⟩ := ReferenceIdeal.top_apply x0 x1 x6 hβ
  refine ⟨i, hi, ?_⟩
  rw [← weight_apply x0 x1 x2 x6 hβ hi hx]
  pointwise [val_main_v77, val_main_v76]
  refine (ReferenceIdeal.gather_apply _ _ b d i (ReferenceIdeal.index_apply x0 x1 x6 hx)).trans ?_
  pointwise [val_main_v74, val_main_v73, val_main_v72, val_main_v71, val_main_v70, val_main_v69, val_main_v68, val_main_v7, val_main_v6]
  rw [hx5, sub_zero, zero_add]

end Cert.Proof.FirstOrderIdeal

end
-- ==== Proof.Agree.lean ====
/- The kernel's result beside the two references'. Each is the value scaled by a weight of a greatest score of the row; every greatest score
   has the same softmax, so the two weights are the kernel's and the reference's of one slot. -/
module

public import proofs.«01_k».proof.Proof.KernelIdeal.Value
public import proofs.«01_k».proof.Proof.ReferenceIdeal.Value
public import proofs.«01_k».proof.Proof.FirstOrderIdeal.Value

@[expose] public section

noncomputable section

namespace Cert.Proof

open Cert.KernelIdeal Cert.KernelIdeal.Gen Cert.Proof.KernelIdeal
open Idealize.ShloMosaic Idealize.ShloMosaic.TcCoe

variable (m : (ℓ : Loc nD τ sig) → Buf (Elt Ideal) ℓ) (c : Dev nD)

/-- The content of the memory the reference writes to. -/
abbrev content : Vec Ideal S50000x32 .f32 := m ((c : Thread nD τ).loc main_arg5)

/-- The reference's result on the kernel's arguments. -/
abbrev refOut : Vec Ideal S32x32 .f32 :=
  Cert.ReferenceIdeal.Read.val_main_v66 (F := Ideal) (query m c) (strength m c) (exponent m c) (value m c) (content m c) (keys m c)

/-- The result, on them, of the reference with the other slots' powers to first order. -/
abbrev firstOrderOut : Vec Ideal S32x32 .f32 :=
  Cert.FirstOrderIdeal.Read.val_main_v77 (F := Ideal) (query m c) (strength m c) (exponent m c) (value m c) (content m c) (keys m c)

/-- At any exponent the kernel's result is that of the reference to first order. -/
theorem first_order_eq {b : Fin 32} {β : ℝ} (hβ : strength m c (ix2 b 0) = (β : EReal)) (hx5 : ∀ j, content m c j = 0) (d : Fin 32) :
    outAt m c lastPoint (ix2 b d) = firstOrderOut m c (ix2 b d) := by
  obtain ⟨k, hk, ek⟩ := KernelIdeal.out_eq m c hβ d
  obtain ⟨i, hi, ei⟩ := FirstOrderIdeal.out_eq (query m c) (strength m c) (exponent m c) (value m c) (content m c) (keys m c) hβ hx5 d
  have hki : scores m c β b k = scores m c β b i := le_antisymm (hi k) (hk i)
  have hs : Selected (soft (scores m c β b)) i := selected_soft hi
  rw [ek, soft_eq hki, hs.tangent_eq (soft_pos _)]
  exact ei.symm

variable {b : Fin 32} {β g : ℝ} (hβ : strength m c (ix2 b 0) = (β : EReal)) (hg : exponent m c (ix2 b 0) = (g : EReal)) (hg0 : 0 ≤ g)
  (hx5 : ∀ j, content m c j = 0) (d : Fin 32)
include hβ hg hg0 hx5

/-- For some slot `i` of row `b` with the greatest softmax, the kernel's result is the value scaled by the kernel's weight
    of `i`, and the reference's the value scaled by its weight of `i`. -/
theorem results : ∃ w : Fin 50000 → ℝ, ∃ i, Selected w i
    ∧ outAt m c lastPoint (ix2 b d) = (kerWeight g (w i) : EReal) * value m c (ix2 b d)
    ∧ refOut m c (ix2 b d) = (refWeight w i g : EReal) * value m c (ix2 b d) := by
  obtain ⟨k, hk, ek⟩ := KernelIdeal.out_eq m c hβ d
  obtain ⟨i, hi, ei⟩ := ReferenceIdeal.out_eq (query m c) (strength m c) (exponent m c) (value m c) (content m c) (keys m c) hβ hg hx5 d
  have hki : scores m c β b k = scores m c β b i := le_antisymm (hi k) (hk i)
  have hs : Selected (soft (scores m c β b)) i := selected_soft hi
  refine ⟨soft (scores m c β b), i, hs, ?_, ei⟩
  rw [ek, soft_eq hki, hg, kerWeightAt_coe g hs.kerSel_pos.ne' (hs.kerDen_pos hg0).ne']

/-- At an exponent of zero or one the two results are equal. -/
theorem result_eq (hg01 : g = 0 ∨ g = 1) : outAt m c lastPoint (ix2 b d) = refOut m c (ix2 b d) := by
  obtain ⟨w, i, hs, ek, ei⟩ := results m c hβ hg hg0 hx5 d
  rw [ek, ei, hs.weight_eq hg01]

end Cert.Proof

end
-- ==== Proof.Close.lean ====
/- The property `close_to_reference`: with the reference's result `r` and `s = r (1 - 1/10^12)`, the kernel's result is
   between the lesser and the greater of `s` and `r`. It follows from the two weights' bounds, whatever the sign of the
   value and also where the value is infinite. -/
module

public import proofs.«01_k».proof.Proof.Agree
public import proofs.«01_k».proof.Proof.Gen.Post_close_to_reference

@[expose] public section

noncomputable section

namespace Cert.Proof

open Idealize.ShloMosaic

/-- A weight `p` between `q t` and `q` scales any value to between `q t` times it and `q` times it, in one order or the
    other. -/
theorem scaled_between {p q t : ℝ} (h1 : q * t ≤ p) (h2 : p ≤ q) (a : EReal) :
    min ((q : EReal) * a * t) (q * a) ≤ p * a ∧ (p : EReal) * a ≤ max ((q : EReal) * a * t) (q * a) := by
  have e : (q : EReal) * a * t = ((q * t : ℝ) : EReal) * a := by
    rw [EReal.coe_mul, mul_assoc, mul_comm a, ← mul_assoc]
  rw [e]
  have h1 : ((q * t : ℝ) : EReal) ≤ p := by exact_mod_cast h1
  have h2 : (p : EReal) ≤ q := by exact_mod_cast h2
  rcases le_total 0 a with ha | ha
  · exact ⟨min_le_of_left_le (mul_le_mul_of_nonneg_right h1 ha), le_max_of_le_right (mul_le_mul_of_nonneg_right h2 ha)⟩
  · have ha : 0 ≤ -a := EReal.neg_nonneg.mpr ha
    have flip : ∀ {x y : EReal}, x ≤ y → y * a ≤ x * a := fun {x y} h => by
      have := mul_le_mul_of_nonneg_right h ha
      rwa [mul_neg, mul_neg, EReal.neg_le_neg_iff] at this
    exact ⟨min_le_of_right_le (flip h2), le_max_of_le_left (flip h1)⟩

/-- The bits of a truth value and of another, both true, conjoined. -/
theorem andi_of {p q : Prop} [Decidable p] [Decidable q] (hp : p) (hq : q) :
    IntOp.andi (BitVec.ofBool (decide p)) (BitVec.ofBool (decide q)) = 1#1 := by
  rw [decide_eq_true hp, decide_eq_true hq]
  rfl

section Reading

open Cert.Post_close_to_reference Cert.Post_close_to_reference.Facts

variable (x0 : FVec Ideal S32x32 .f32) (x1 x2 : FVec Ideal S32x1 .f32) (x3 x4 : FVec Ideal S32x32 .f32) (x5 x6 : FVec Ideal S50000x32 .f32)
  (y : FVec Ideal S32x32 .f32)

/-- The factor `1 - 1/10^6/10^6` as the property computes it. -/
def shrink : FVec Ideal S_ .f32 :=
  subf (constant S_ .f32 0x3F800000#32)
    (Host.divf (Host.divf (constant S_ .f32 0x3F800000#32) (constant S_ .f32 0x49742400#32)) (constant S_ .f32 0x49742400#32))

/-- It is that real number. -/
theorem shrink_apply (i : S_.Idx) : shrink i = ((1 - 1 / 1000000 / 1000000 : ℝ) : EReal) := by
  show Ideal.ofBits .f32 0x3F800000#32 - Ideal.div (Ideal.div (Ideal.ofBits .f32 0x3F800000#32) (Ideal.ofBits .f32 0x49742400#32))
    (Ideal.ofBits .f32 0x49742400#32) = _
  rw [ofBits_one, ofBits_1e6, div_real _ (by norm_num), div_real _ (by norm_num), ← EReal.coe_sub]

/-- The property is two comparisons with the reference's result and its multiple. -/
theorem close_eq (r : FVec Ideal S32x32 .f32) (hr : r = Cert.ReferenceIdeal.Read.val_main_v66 (F := Ideal) x0 x1 x2 x4 x5 x6) :
    fn (F := Ideal) x0 x1 x2 x3 x4 x5 x6 y =
      andi (cmpf .ole (minimumf (mulf r (broadcastInDim S32x32 ![] bcast_S_S32x32 shrink)) r) y)
        (cmpf .ole y (maximumf (mulf r (broadcastInDim S32x32 ![] bcast_S_S32x32 shrink)) r)) := by
  subst hr
  unfold fn fn_part1 fn_part2 fn_part3 fn_part4 fn_take_along_axis
  rfl

end Reading

open Cert.KernelIdeal Cert.KernelIdeal.Gen Cert.Proof.KernelIdeal
open Idealize.ShloMosaic.TcCoe

variable (m : (ℓ : Loc nD τ sig) → Buf (Elt Ideal) ℓ) (c : Dev nD)

/-- The kernel's result has the property at every place of a row whose strength is real and exponent between zero and one. -/
theorem result_close {b : Fin 32} {β g : ℝ} (hβ : strength m c (ix2 b 0) = (β : EReal)) (hg : exponent m c (ix2 b 0) = (g : EReal))
    (hg0 : 0 ≤ g) (hg1 : g ≤ 1) (hx5 : ∀ j, content m c j = 0) (d : Fin 32) (x3 : Vec Ideal S32x32 .f32) :
    Cert.Post_close_to_reference.fn (F := Ideal) (query m c) (strength m c) (exponent m c) x3 (value m c) (content m c) (keys m c)
      (outAt m c lastPoint) (ix2 b d) = 1#1 := by
  obtain ⟨w, i, hs, ek, ei⟩ := results m c hβ hg hg0 hx5 d
  obtain ⟨h1, h2⟩ := hs.weight_close hg0 hg1
  obtain ⟨hl, hu⟩ := scaled_between h1 h2 (value m c (ix2 b d))
  rw [close_eq _ _ _ _ _ _ _ _ (refOut m c) rfl]
  have hk : broadcastInDim S32x32 ![] Post_close_to_reference.Facts.bcast_S_S32x32 shrink (ix2 b d)
      = ((1 - 1 / 1000000 / 1000000 : ℝ) : EReal) := shrink_apply _
  have hl : min (refOut m c (ix2 b d) * broadcastInDim S32x32 ![] Post_close_to_reference.Facts.bcast_S_S32x32 shrink (ix2 b d))
      (refOut m c (ix2 b d)) ≤ outAt m c lastPoint (ix2 b d) := by rw [ek, ei, hk]; exact hl
  have hu : outAt m c lastPoint (ix2 b d) ≤ max (refOut m c (ix2 b d)
      * broadcastInDim S32x32 ![] Post_close_to_reference.Facts.bcast_S_S32x32 shrink (ix2 b d)) (refOut m c (ix2 b d)) := by
    rw [ek, ei, hk]; exact hu
  exact andi_of hl hu

end Cert.Proof

end
-- ==== Proof.lean ====
module

public import proofs.«01_k».proof.Defs
public import proofs.«01_k».proof.Proof.Kernel.Frame
public import proofs.«01_k».proof.Proof.Inputs
public import proofs.«01_k».proof.Proof.Close
public import proofs.«01_k».proof.Proof.Gen.ReferenceIdeal.Run
public import proofs.«01_k».proof.Proof.Gen.FirstOrderIdeal
public import proofs.«01_k».proof.Proof.Gen.FirstOrderIdeal.Run
public import proofs.«01_k».proof.Proof.Gen.FirstOrderIdeal.Read
public import proofs.«01_k».proof.Proof.Gen.Pre_zero_content

@[expose] public section

noncomputable section

namespace Cert.Proof

open Idealize.ShloMosaic Idealize.SL.Sem Idealize.ShloMosaic.TcCoe

section

open Cert.KernelIdeal Cert.KernelIdeal.Gen Cert.Proof.KernelIdeal

variable (m : (ℓ : Loc nD τ sig) → Buf (Elt Ideal) ℓ)

/-- The kernel over the extended reals runs, leaves its arguments, and ends with every counter at zero. -/
theorem frame_ideal (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2, h.2⟩) (run_result m ρ)

/-- Every place of the result is some row and column. -/
theorem exists_ix2 (j : S32x32.Idx) : ∃ b d : Fin 32, j = ix2 b d :=
  ⟨j 0, j 1, by funext a; match a with | ⟨0, _⟩ => rfl | ⟨1, _⟩ => rfl⟩

/-- Under `affine_power` the kernel's result is the reference's on the same arguments. -/
theorem result_affine_power (h : Pre_KernelIdeal_affine_power m) (c : Dev nD) : outAt m c lastPoint = refOut m c := by
  obtain ⟨h5, h1, h2⟩ := affine_power_inputs _ _ _ _ _ _ _ (h c)
  funext j
  obtain ⟨b, d, rfl⟩ := exists_ix2 j
  obtain ⟨β, hβ⟩ := h1 (ix2 b 0)
  obtain ⟨g, hg, hg01⟩ := h2 (ix2 b 0)
  exact result_eq m c hβ hg (by rcases hg01 with h | h <;> rw [h]; exact zero_le_one) h5 d hg01

/-- Under `zero_content` the kernel's result is that of the reference to first order. -/
theorem result_zero_content (h : Pre_KernelIdeal_zero_content m) (c : Dev nD) : outAt m c lastPoint = firstOrderOut m c := by
  obtain ⟨h5, h1⟩ := zero_content_inputs _ _ _ _ _ _ _ (h c)
  funext j
  obtain ⟨b, d, rfl⟩ := exists_ix2 j
  obtain ⟨β, hβ⟩ := h1 (ix2 b 0)
  exact first_order_eq m c hβ h5 d

/-- Under `drawn_inputs` the kernel's result is close to the reference's. -/
theorem result_drawn_inputs (h : Pre_KernelIdeal_drawn_inputs m) (c : Dev nD) :
    Cert.Post_close_to_reference.fn (F := Ideal) (query m c) (strength m c) (exponent m c) (m ((c.tc : Thread nD τ).loc main_arg3))
      (value m c) (content m c) (keys m c) (outAt m c lastPoint) = fun _ => 1#1 := by
  obtain ⟨h5, h1, h2⟩ := drawn_inputs_inputs _ _ _ _ _ _ _ (h c)
  funext j
  obtain ⟨b, d, rfl⟩ := exists_ix2 j
  obtain ⟨β, hβ⟩ := h1 (ix2 b 0)
  obtain ⟨g, hg, hg0, hg1⟩ := h2 (ix2 b 0)
  exact result_close m c hβ hg hg0 hg1 h5 d _

end

/-- The reference over the extended reals runs, leaves its arguments, and ends with every counter at zero. -/
theorem frame_reference : quiescent_ReferenceIdeal := fun m ρ _ =>
  (θ_run Cert.ReferenceIdeal.defs _ _).mono
    (fun r h => ⟨fun c => (h c).2, Idealize.ShloMosaic.sem_eq_zero_of_no_sems (by decide) r.2⟩) (Cert.ReferenceIdeal.Value.run (F := Ideal) m ρ)

/-- So does the reference to first order. -/
theorem frame_first_order : quiescent_FirstOrderIdeal := fun m ρ _ =>
  (θ_run Cert.FirstOrderIdeal.defs _ _).mono
    (fun r h => ⟨fun c => (h c).2, Idealize.ShloMosaic.sem_eq_zero_of_no_sems (by decide) r.2⟩) (Cert.FirstOrderIdeal.Value.run (F := Ideal) m ρ)

/-- The named constants have the values the kernel's words were read as. -/
theorem preserved : preserves_Kernel_KernelIdeal :=
  ⟨IdealRules.named_const.statement Cert.KernelIdeal.κ "eps" .f32 0x322BCC77#32 _ rfl,
    IdealRules.named_const.statement Cert.KernelIdeal.κ "floor" .f32 0x24E69595#32 _ rfl,
    IdealRules.named_const.statement Cert.KernelIdeal.κ "log_tiny" .f32 0xC1B834F1#32 _ rfl,
    IdealRules.named_const.statement Cert.KernelIdeal.κ "tiny" .f32 0x2EDBE6FF#32 _ rfl,
    IdealRules.named_const.statement Cert.KernelIdeal.κ "ratio" .f32 0x358637BD#32 _ rfl⟩

/-- Under `affine_power` the kernel and the reference end with equal results. -/
theorem equal_results : algebraic_KernelIdeal_ReferenceIdeal_pre_affine_power := by
  intro m ρ m' ρ' hpre hagree
  refine ⟨fun c => KernelIdeal.outAt m c KernelIdeal.lastPoint, ?_, ?_⟩
  · exact (θ_run Cert.KernelIdeal.defs _ _).mono (fun _ h => h.1) (KernelIdeal.run_result m ρ)
  · refine (θ_run Cert.ReferenceIdeal.defs _ _).mono (fun r h c => ⟨?_, (h c).2⟩) (Cert.ReferenceIdeal.Value.run (F := Ideal) m' ρ')
    obtain ⟨e0, e1, e2, _, e4, e5, e6⟩ := hagree c
    rw [(h c).1, Cert.ReferenceIdeal.Read.val_main_v66_eq, e0, e1, e2, e4, e5, e6]
    exact (result_affine_power m hpre c).symm

/-- Under `zero_content` the kernel and the reference to first order end with equal results. -/
theorem equal_first_order : algebraic_KernelIdeal_FirstOrderIdeal_pre_zero_content := by
  intro m ρ m' ρ' hpre hagree
  refine ⟨fun c => KernelIdeal.outAt m c KernelIdeal.lastPoint, ?_, ?_⟩
  · exact (θ_run Cert.KernelIdeal.defs _ _).mono (fun _ h => h.1) (KernelIdeal.run_result m ρ)
  · refine (θ_run Cert.FirstOrderIdeal.defs _ _).mono (fun r h c => ⟨?_, (h c).2⟩) (Cert.FirstOrderIdeal.Value.run (F := Ideal) m' ρ')
    obtain ⟨e0, e1, e2, _, e4, e5, e6⟩ := hagree c
    have hv : r.2.mem ((c.tc : Thread Cert.FirstOrderIdeal.nD Cert.FirstOrderIdeal.τ).loc Cert.FirstOrderIdeal.main_v77)
        = Cert.FirstOrderIdeal.Read.val_main_v77 (F := Ideal) _ _ _ _ _ _ :=
      (h c).1.trans (Cert.FirstOrderIdeal.Read.val_main_v77_eq (F := Ideal) (StableHlo.launchContents m' c))
    refine hv.trans (Eq.trans ?_ (result_zero_content m hpre c).symm)
    show Cert.FirstOrderIdeal.Read.val_main_v77 (F := Ideal)
      (m' ((c.tc : Thread Cert.FirstOrderIdeal.nD Cert.FirstOrderIdeal.τ).loc Cert.FirstOrderIdeal.main_arg0))
      (m' ((c.tc : Thread Cert.FirstOrderIdeal.nD Cert.FirstOrderIdeal.τ).loc Cert.FirstOrderIdeal.main_arg1))
      (m' ((c.tc : Thread Cert.FirstOrderIdeal.nD Cert.FirstOrderIdeal.τ).loc Cert.FirstOrderIdeal.main_arg2))
      (m' ((c.tc : Thread Cert.FirstOrderIdeal.nD Cert.FirstOrderIdeal.τ).loc Cert.FirstOrderIdeal.main_arg4))
      (m' ((c.tc : Thread Cert.FirstOrderIdeal.nD Cert.FirstOrderIdeal.τ).loc Cert.FirstOrderIdeal.main_arg5))
      (m' ((c.tc : Thread Cert.FirstOrderIdeal.nD Cert.FirstOrderIdeal.τ).loc Cert.FirstOrderIdeal.main_arg6)) = _
    rw [e0, e1, e2, e4, e5, e6]

/-- Under `drawn_inputs` the kernel's result is close to the reference's. -/
theorem close_results : holds_KernelIdeal_close_to_reference_pre_drawn_inputs := fun m ρ hpre =>
  (θ_run Cert.KernelIdeal.defs _ _).mono (fun r h c => by
    obtain ⟨e, e0, e1, e2, e3, e4, e5, e6⟩ := h.1 c
    refine ⟨e0, e1, e2, e3, e4, e5, e6, ?_⟩
    rw [e]
    exact result_drawn_inputs m hpre c) (KernelIdeal.run_result m ρ)

/-- Everything claimed. -/
theorem claim : Cert.Claim :=
  ⟨Cert.Kernel.Gen.facts, Cert.KernelIdeal.Gen.facts, Cert.ReferenceIdeal.Gen.facts, Cert.FirstOrderIdeal.Gen.facts,
    Cert.Pre_affine_power.Gen.facts, Cert.Pre_zero_content.Gen.facts, Cert.Pre_drawn_inputs.Gen.facts,
    Cert.Post_close_to_reference.Gen.facts,
    fun m ρ _ => Kernel.frame m ρ, fun m ρ _ => frame_ideal m ρ, fun m ρ _ => frame_ideal m ρ, fun m ρ _ => frame_ideal m ρ,
    fun m ρ _ => frame_ideal m ρ, frame_reference, fun m ρ _ => frame_reference m ρ trivial, frame_first_order,
    fun m ρ _ => frame_first_order m ρ trivial, preserved, equal_results, equal_first_order, close_results⟩

end Cert.Proof

end
